-- ==== Defs.lean ====
def Pre_Kernel [hPre_rolled_1_Kernel : Cert.Pre_rolled_1_Kernel.Facts] (m : (ℓ : Loc Cert.Kernel.nD Cert.Kernel.τ Cert.Kernel.sig) → Buf (Elt Bits) ℓ) : Prop :=
  ∀ c : Dev Cert.Kernel.nD,
    (Cert.Pre_rolled_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_2_Kernel [hPre_rolled_2_Kernel : Cert.Pre_rolled_2_Kernel.Facts] (m : (ℓ : Loc Cert.Kernel.nD Cert.Kernel.τ Cert.Kernel.sig) → Buf (Elt Bits) ℓ) : Prop :=
  ∀ c : Dev Cert.Kernel.nD,
    (Cert.Pre_rolled_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_3_Kernel [hPre_rolled_3_Kernel : Cert.Pre_rolled_3_Kernel.Facts] (m : (ℓ : Loc Cert.Kernel.nD Cert.Kernel.τ Cert.Kernel.sig) → Buf (Elt Bits) ℓ) : Prop :=
  ∀ c : Dev Cert.Kernel.nD,
    (Cert.Pre_rolled_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_4_Kernel [hPre_rolled_4_Kernel : Cert.Pre_rolled_4_Kernel.Facts] (m : (ℓ : Loc Cert.Kernel.nD Cert.Kernel.τ Cert.Kernel.sig) → Buf (Elt Bits) ℓ) : Prop :=
  ∀ c : Dev Cert.Kernel.nD,
    (Cert.Pre_rolled_4_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_5_Kernel [hPre_rolled_5_Kernel : Cert.Pre_rolled_5_Kernel.Facts] (m : (ℓ : Loc Cert.Kernel.nD Cert.Kernel.τ Cert.Kernel.sig) → Buf (Elt Bits) ℓ) : Prop :=
  ∀ c : Dev Cert.Kernel.nD,
    (Cert.Pre_rolled_5_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_6_Kernel [hPre_rolled_6_Kernel : Cert.Pre_rolled_6_Kernel.Facts] (m : (ℓ : Loc Cert.Kernel.nD Cert.Kernel.τ Cert.Kernel.sig) → Buf (Elt Bits) ℓ) : Prop :=
  ∀ c : Dev Cert.Kernel.nD,
    (Cert.Pre_rolled_6_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_7_Kernel [hPre_rolled_7_Kernel : Cert.Pre_rolled_7_Kernel.Facts] (m : (ℓ : Loc Cert.Kernel.nD Cert.Kernel.τ Cert.Kernel.sig) → Buf (Elt Bits) ℓ) : Prop :=
  ∀ c : Dev Cert.Kernel.nD,
    (Cert.Pre_rolled_7_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rolled_1_Kernel : Cert.Pre_rolled_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_2_Kernel [hPre_rolled_2_Kernel : Cert.Pre_rolled_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_3_Kernel [hPre_rolled_3_Kernel : Cert.Pre_rolled_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_4_Kernel [hPre_rolled_4_Kernel : Cert.Pre_rolled_4_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_4_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_5_Kernel [hPre_rolled_5_Kernel : Cert.Pre_rolled_5_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_5_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_6_Kernel [hPre_rolled_6_Kernel : Cert.Pre_rolled_6_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_6_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_7_Kernel [hPre_rolled_7_Kernel : Cert.Pre_rolled_7_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_7_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rolled_1_ReferenceIdeal [hPre_rolled_1_ReferenceIdeal : Cert.Pre_rolled_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_2_ReferenceIdeal [hPre_rolled_2_ReferenceIdeal : Cert.Pre_rolled_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_3_ReferenceIdeal [hPre_rolled_3_ReferenceIdeal : Cert.Pre_rolled_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_4_ReferenceIdeal [hPre_rolled_4_ReferenceIdeal : Cert.Pre_rolled_4_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_5_ReferenceIdeal [hPre_rolled_5_ReferenceIdeal : Cert.Pre_rolled_5_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_5_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_6_ReferenceIdeal [hPre_rolled_6_ReferenceIdeal : Cert.Pre_rolled_6_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_6_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_7_ReferenceIdeal [hPre_rolled_7_ReferenceIdeal : Cert.Pre_rolled_7_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_7_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rolled_1_Kernel : Cert.Pre_rolled_1_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_2_Kernel [hKernel : Cert.Kernel.Facts] [hPre_rolled_2_Kernel : Cert.Pre_rolled_2_Kernel.Facts] : Prop :=
  ∀ (m : (ℓ : Loc Cert.Kernel.nD Cert.Kernel.τ Cert.Kernel.sig) → Buf (Elt Bits) ℓ) (g : Dev Cert.Kernel.nD → PrngReg), Pre_Kernel_rolled_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_3_Kernel [hKernel : Cert.Kernel.Facts] [hPre_rolled_3_Kernel : Cert.Pre_rolled_3_Kernel.Facts] : Prop :=
  ∀ (m : (ℓ : Loc Cert.Kernel.nD Cert.Kernel.τ Cert.Kernel.sig) → Buf (Elt Bits) ℓ) (g : Dev Cert.Kernel.nD → PrngReg), Pre_Kernel_rolled_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_4_Kernel [hKernel : Cert.Kernel.Facts] [hPre_rolled_4_Kernel : Cert.Pre_rolled_4_Kernel.Facts] : Prop :=
  ∀ (m : (ℓ : Loc Cert.Kernel.nD Cert.Kernel.τ Cert.Kernel.sig) → Buf (Elt Bits) ℓ) (g : Dev Cert.Kernel.nD → PrngReg), Pre_Kernel_rolled_4_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_5_Kernel [hKernel : Cert.Kernel.Facts] [hPre_rolled_5_Kernel : Cert.Pre_rolled_5_Kernel.Facts] : Prop :=
  ∀ (m : (ℓ : Loc Cert.Kernel.nD Cert.Kernel.τ Cert.Kernel.sig) → Buf (Elt Bits) ℓ) (g : Dev Cert.Kernel.nD → PrngReg), Pre_Kernel_rolled_5_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_6_Kernel [hKernel : Cert.Kernel.Facts] [hPre_rolled_6_Kernel : Cert.Pre_rolled_6_Kernel.Facts] : Prop :=
  ∀ (m : (ℓ : Loc Cert.Kernel.nD Cert.Kernel.τ Cert.Kernel.sig) → Buf (Elt Bits) ℓ) (g : Dev Cert.Kernel.nD → PrngReg), Pre_Kernel_rolled_6_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_7_Kernel [hKernel : Cert.Kernel.Facts] [hPre_rolled_7_Kernel : Cert.Pre_rolled_7_Kernel.Facts] : Prop :=
  ∀ (m : (ℓ : Loc Cert.Kernel.nD Cert.Kernel.τ Cert.Kernel.sig) → Buf (Elt Bits) ℓ) (g : Dev Cert.Kernel.nD → PrngReg), Pre_Kernel_rolled_7_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rolled_1_Kernel : Cert.Pre_rolled_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_2_Kernel [hKernelIdeal : Cert.KernelIdeal.Facts] [hPre_rolled_2_Kernel : Cert.Pre_rolled_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_3_Kernel [hKernelIdeal : Cert.KernelIdeal.Facts] [hPre_rolled_3_Kernel : Cert.Pre_rolled_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_4_Kernel [hKernelIdeal : Cert.KernelIdeal.Facts] [hPre_rolled_4_Kernel : Cert.Pre_rolled_4_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_4_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_5_Kernel [hKernelIdeal : Cert.KernelIdeal.Facts] [hPre_rolled_5_Kernel : Cert.Pre_rolled_5_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_5_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_6_Kernel [hKernelIdeal : Cert.KernelIdeal.Facts] [hPre_rolled_6_Kernel : Cert.Pre_rolled_6_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_6_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_7_Kernel [hKernelIdeal : Cert.KernelIdeal.Facts] [hPre_rolled_7_Kernel : Cert.Pre_rolled_7_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_7_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_1_ReferenceIdeal [hReferenceIdeal : Cert.ReferenceIdeal.Facts] [hPre_rolled_1_ReferenceIdeal : Cert.Pre_rolled_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_2_ReferenceIdeal [hReferenceIdeal : Cert.ReferenceIdeal.Facts] [hPre_rolled_2_ReferenceIdeal : Cert.Pre_rolled_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_3_ReferenceIdeal [hReferenceIdeal : Cert.ReferenceIdeal.Facts] [hPre_rolled_3_ReferenceIdeal : Cert.Pre_rolled_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_4_ReferenceIdeal [hReferenceIdeal : Cert.ReferenceIdeal.Facts] [hPre_rolled_4_ReferenceIdeal : Cert.Pre_rolled_4_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_4_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_5_ReferenceIdeal [hReferenceIdeal : Cert.ReferenceIdeal.Facts] [hPre_rolled_5_ReferenceIdeal : Cert.Pre_rolled_5_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_5_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_6_ReferenceIdeal [hReferenceIdeal : Cert.ReferenceIdeal.Facts] [hPre_rolled_6_ReferenceIdeal : Cert.Pre_rolled_6_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_6_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_7_ReferenceIdeal [hReferenceIdeal : Cert.ReferenceIdeal.Facts] [hPre_rolled_7_ReferenceIdeal : Cert.Pre_rolled_7_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_7_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rolled_1_Kernel : Cert.Pre_rolled_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![8, 256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_2_Kernel [hKernelIdeal : Cert.KernelIdeal.Facts] [hReferenceIdeal : Cert.ReferenceIdeal.Facts] [hPre_rolled_2_Kernel : Cert.Pre_rolled_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_2_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![8, 256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_3_Kernel [hKernelIdeal : Cert.KernelIdeal.Facts] [hReferenceIdeal : Cert.ReferenceIdeal.Facts] [hPre_rolled_3_Kernel : Cert.Pre_rolled_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_3_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![8, 256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_4_Kernel [hKernelIdeal : Cert.KernelIdeal.Facts] [hReferenceIdeal : Cert.ReferenceIdeal.Facts] [hPre_rolled_4_Kernel : Cert.Pre_rolled_4_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_4_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![8, 256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_5_Kernel [hKernelIdeal : Cert.KernelIdeal.Facts] [hReferenceIdeal : Cert.ReferenceIdeal.Facts] [hPre_rolled_5_Kernel : Cert.Pre_rolled_5_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_5_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![8, 256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_6_Kernel [hKernelIdeal : Cert.KernelIdeal.Facts] [hReferenceIdeal : Cert.ReferenceIdeal.Facts] [hPre_rolled_6_Kernel : Cert.Pre_rolled_6_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_6_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![8, 256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_7_Kernel [hKernelIdeal : Cert.KernelIdeal.Facts] [hReferenceIdeal : Cert.ReferenceIdeal.Facts] [hPre_rolled_7_Kernel : Cert.Pre_rolled_7_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_7_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![8, 256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rolled_1_Kernel : Cert.Pre_rolled_1_Kernel.Facts) (hPre_rolled_2_Kernel : Cert.Pre_rolled_2_Kernel.Facts) (hPre_rolled_3_Kernel : Cert.Pre_rolled_3_Kernel.Facts) (hPre_rolled_4_Kernel : Cert.Pre_rolled_4_Kernel.Facts) (hPre_rolled_5_Kernel : Cert.Pre_rolled_5_Kernel.Facts) (hPre_rolled_6_Kernel : Cert.Pre_rolled_6_Kernel.Facts) (hPre_rolled_7_Kernel : Cert.Pre_rolled_7_Kernel.Facts) (hPre_rolled_1_ReferenceIdeal : Cert.Pre_rolled_1_ReferenceIdeal.Facts) (hPre_rolled_2_ReferenceIdeal : Cert.Pre_rolled_2_ReferenceIdeal.Facts) (hPre_rolled_3_ReferenceIdeal : Cert.Pre_rolled_3_ReferenceIdeal.Facts) (hPre_rolled_4_ReferenceIdeal : Cert.Pre_rolled_4_ReferenceIdeal.Facts) (hPre_rolled_5_ReferenceIdeal : Cert.Pre_rolled_5_ReferenceIdeal.Facts) (hPre_rolled_6_ReferenceIdeal : Cert.Pre_rolled_6_ReferenceIdeal.Facts) (hPre_rolled_7_ReferenceIdeal : Cert.Pre_rolled_7_ReferenceIdeal.Facts),
    quiescent_Kernel (hKernel := hKernel) (hPre_rolled_1_Kernel := hPre_rolled_1_Kernel)
    ∧ quiescent_Kernel_pre_rolled_2_Kernel (hKernel := hKernel) (hPre_rolled_2_Kernel := hPre_rolled_2_Kernel)
    ∧ quiescent_Kernel_pre_rolled_3_Kernel (hKernel := hKernel) (hPre_rolled_3_Kernel := hPre_rolled_3_Kernel)
    ∧ quiescent_Kernel_pre_rolled_4_Kernel (hKernel := hKernel) (hPre_rolled_4_Kernel := hPre_rolled_4_Kernel)
    ∧ quiescent_Kernel_pre_rolled_5_Kernel (hKernel := hKernel) (hPre_rolled_5_Kernel := hPre_rolled_5_Kernel)
    ∧ quiescent_Kernel_pre_rolled_6_Kernel (hKernel := hKernel) (hPre_rolled_6_Kernel := hPre_rolled_6_Kernel)
    ∧ quiescent_Kernel_pre_rolled_7_Kernel (hKernel := hKernel) (hPre_rolled_7_Kernel := hPre_rolled_7_Kernel)
    ∧ quiescent_KernelIdeal (hKernelIdeal := hKernelIdeal) (hPre_rolled_1_Kernel := hPre_rolled_1_Kernel)
    ∧ quiescent_KernelIdeal_pre_rolled_2_Kernel (hKernelIdeal := hKernelIdeal) (hPre_rolled_2_Kernel := hPre_rolled_2_Kernel)
    ∧ quiescent_KernelIdeal_pre_rolled_3_Kernel (hKernelIdeal := hKernelIdeal) (hPre_rolled_3_Kernel := hPre_rolled_3_Kernel)
    ∧ quiescent_KernelIdeal_pre_rolled_4_Kernel (hKernelIdeal := hKernelIdeal) (hPre_rolled_4_Kernel := hPre_rolled_4_Kernel)
    ∧ quiescent_KernelIdeal_pre_rolled_5_Kernel (hKernelIdeal := hKernelIdeal) (hPre_rolled_5_Kernel := hPre_rolled_5_Kernel)
    ∧ quiescent_KernelIdeal_pre_rolled_6_Kernel (hKernelIdeal := hKernelIdeal) (hPre_rolled_6_Kernel := hPre_rolled_6_Kernel)
    ∧ quiescent_KernelIdeal_pre_rolled_7_Kernel (hKernelIdeal := hKernelIdeal) (hPre_rolled_7_Kernel := hPre_rolled_7_Kernel)
    ∧ quiescent_ReferenceIdeal (hReferenceIdeal := hReferenceIdeal)
    ∧ quiescent_ReferenceIdeal_pre_rolled_1_ReferenceIdeal (hReferenceIdeal := hReferenceIdeal) (hPre_rolled_1_ReferenceIdeal := hPre_rolled_1_ReferenceIdeal)
    ∧ quiescent_ReferenceIdeal_pre_rolled_2_ReferenceIdeal (hReferenceIdeal := hReferenceIdeal) (hPre_rolled_2_ReferenceIdeal := hPre_rolled_2_ReferenceIdeal)
    ∧ quiescent_ReferenceIdeal_pre_rolled_3_ReferenceIdeal (hReferenceIdeal := hReferenceIdeal) (hPre_rolled_3_ReferenceIdeal := hPre_rolled_3_ReferenceIdeal)
    ∧ quiescent_ReferenceIdeal_pre_rolled_4_ReferenceIdeal (hReferenceIdeal := hReferenceIdeal) (hPre_rolled_4_ReferenceIdeal := hPre_rolled_4_ReferenceIdeal)
    ∧ quiescent_ReferenceIdeal_pre_rolled_5_ReferenceIdeal (hReferenceIdeal := hReferenceIdeal) (hPre_rolled_5_ReferenceIdeal := hPre_rolled_5_ReferenceIdeal)
    ∧ quiescent_ReferenceIdeal_pre_rolled_6_ReferenceIdeal (hReferenceIdeal := hReferenceIdeal) (hPre_rolled_6_ReferenceIdeal := hPre_rolled_6_ReferenceIdeal)
    ∧ quiescent_ReferenceIdeal_pre_rolled_7_ReferenceIdeal (hReferenceIdeal := hReferenceIdeal) (hPre_rolled_7_ReferenceIdeal := hPre_rolled_7_ReferenceIdeal)
    ∧ preserves_Kernel_KernelIdeal
    ∧ algebraic_KernelIdeal_ReferenceIdeal (hKernelIdeal := hKernelIdeal) (hReferenceIdeal := hReferenceIdeal) (hPre_rolled_1_Kernel := hPre_rolled_1_Kernel)
    ∧ algebraic_KernelIdeal_ReferenceIdeal_pre_rolled_2_Kernel (hKernelIdeal := hKernelIdeal) (hReferenceIdeal := hReferenceIdeal) (hPre_rolled_2_Kernel := hPre_rolled_2_Kernel)
    ∧ algebraic_KernelIdeal_ReferenceIdeal_pre_rolled_3_Kernel (hKernelIdeal := hKernelIdeal) (hReferenceIdeal := hReferenceIdeal) (hPre_rolled_3_Kernel := hPre_rolled_3_Kernel)
    ∧ algebraic_KernelIdeal_ReferenceIdeal_pre_rolled_4_Kernel (hKernelIdeal := hKernelIdeal) (hReferenceIdeal := hReferenceIdeal) (hPre_rolled_4_Kernel := hPre_rolled_4_Kernel)
    ∧ algebraic_KernelIdeal_ReferenceIdeal_pre_rolled_5_Kernel (hKernelIdeal := hKernelIdeal) (hReferenceIdeal := hReferenceIdeal) (hPre_rolled_5_Kernel := hPre_rolled_5_Kernel)
    ∧ algebraic_KernelIdeal_ReferenceIdeal_pre_rolled_6_Kernel (hKernelIdeal := hKernelIdeal) (hReferenceIdeal := hReferenceIdeal) (hPre_rolled_6_Kernel := hPre_rolled_6_Kernel)
    ∧ algebraic_KernelIdeal_ReferenceIdeal_pre_rolled_7_Kernel (hKernelIdeal := hKernelIdeal) (hReferenceIdeal := hReferenceIdeal) (hPre_rolled_7_Kernel := hPre_rolled_7_Kernel)
-- ==== Pre_rolled_1_Kernel.lean ====
abbrev S1x256x256 : Shape := ⟨3, ![1, 256, 256]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x256x256 .f32) (main_arg1 : IVec S8 32) : IVec S8 1 :=
  let main_v0 : IVec S8 32 := iotaInDim S8 32 0
  let main_c : IVec S_ 32 := constantI S_ 32 7#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_1_ReferenceIdeal.lean ====
abbrev S8x256x256 : Shape := ⟨3, ![8, 256, 256]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x256x256 .f32) (main_arg1 : IVec S8 32) : IVec S8 1 :=
  let main_v0 : IVec S8 32 := iotaInDim S8 32 0
  let main_c : IVec S_ 32 := constantI S_ 32 7#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_2_Kernel.lean ====
abbrev S1x256x256 : Shape := ⟨3, ![1, 256, 256]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x256x256 .f32) (main_arg1 : IVec S8 32) : IVec S8 1 :=
  let main_v0 : IVec S8 32 := iotaInDim S8 32 0
  let main_c : IVec S_ 32 := constantI S_ 32 6#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_2_ReferenceIdeal.lean ====
abbrev S8x256x256 : Shape := ⟨3, ![8, 256, 256]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x256x256 .f32) (main_arg1 : IVec S8 32) : IVec S8 1 :=
  let main_v0 : IVec S8 32 := iotaInDim S8 32 0
  let main_c : IVec S_ 32 := constantI S_ 32 6#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_3_Kernel.lean ====
abbrev S1x256x256 : Shape := ⟨3, ![1, 256, 256]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x256x256 .f32) (main_arg1 : IVec S8 32) : IVec S8 1 :=
  let main_v0 : IVec S8 32 := iotaInDim S8 32 0
  let main_c : IVec S_ 32 := constantI S_ 32 5#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_3_ReferenceIdeal.lean ====
abbrev S8x256x256 : Shape := ⟨3, ![8, 256, 256]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x256x256 .f32) (main_arg1 : IVec S8 32) : IVec S8 1 :=
  let main_v0 : IVec S8 32 := iotaInDim S8 32 0
  let main_c : IVec S_ 32 := constantI S_ 32 5#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_4_Kernel.lean ====
abbrev S1x256x256 : Shape := ⟨3, ![1, 256, 256]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x256x256 .f32) (main_arg1 : IVec S8 32) : IVec S8 1 :=
  let main_v0 : IVec S8 32 := iotaInDim S8 32 0
  let main_c : IVec S_ 32 := constantI S_ 32 4#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_4_ReferenceIdeal.lean ====
abbrev S8x256x256 : Shape := ⟨3, ![8, 256, 256]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x256x256 .f32) (main_arg1 : IVec S8 32) : IVec S8 1 :=
  let main_v0 : IVec S8 32 := iotaInDim S8 32 0
  let main_c : IVec S_ 32 := constantI S_ 32 4#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_5_Kernel.lean ====
abbrev S1x256x256 : Shape := ⟨3, ![1, 256, 256]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x256x256 .f32) (main_arg1 : IVec S8 32) : IVec S8 1 :=
  let main_v0 : IVec S8 32 := iotaInDim S8 32 0
  let main_c : IVec S_ 32 := constantI S_ 32 3#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_5_ReferenceIdeal.lean ====
abbrev S8x256x256 : Shape := ⟨3, ![8, 256, 256]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x256x256 .f32) (main_arg1 : IVec S8 32) : IVec S8 1 :=
  let main_v0 : IVec S8 32 := iotaInDim S8 32 0
  let main_c : IVec S_ 32 := constantI S_ 32 3#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_6_Kernel.lean ====
abbrev S1x256x256 : Shape := ⟨3, ![1, 256, 256]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x256x256 .f32) (main_arg1 : IVec S8 32) : IVec S8 1 :=
  let main_v0 : IVec S8 32 := iotaInDim S8 32 0
  let main_c : IVec S_ 32 := constantI S_ 32 2#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_6_ReferenceIdeal.lean ====
abbrev S8x256x256 : Shape := ⟨3, ![8, 256, 256]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x256x256 .f32) (main_arg1 : IVec S8 32) : IVec S8 1 :=
  let main_v0 : IVec S8 32 := iotaInDim S8 32 0
  let main_c : IVec S_ 32 := constantI S_ 32 2#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_7_Kernel.lean ====
abbrev S1x256x256 : Shape := ⟨3, ![1, 256, 256]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x256x256 .f32) (main_arg1 : IVec S8 32) : IVec S8 1 :=
  let main_v0 : IVec S8 32 := iotaInDim S8 32 0
  let main_c : IVec S_ 32 := constantI S_ 32 1#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_7_ReferenceIdeal.lean ====
abbrev S8x256x256 : Shape := ⟨3, ![8, 256, 256]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x256x256 .f32) (main_arg1 : IVec S8 32) : IVec S8 1 :=
  let main_v0 : IVec S8 32 := iotaInDim S8 32 0
  let main_c : IVec S_ 32 := constantI S_ 32 1#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Kernel.lean ====
abbrev S1x256x256 : Shape := ⟨3, ![1, 256, 256]⟩
abbrev S8 : Shape := ⟨1, ![8]⟩
abbrev S_ : Shape := ⟨0, ![]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S1x256x256, .f32⟩
  | .hbm, ⟨1, _⟩ => ⟨S8, .i32⟩
  | .hbm, ⟨2, _⟩ => ⟨S1x256x256, .f32⟩
  | .local _ .vmem, ⟨0, _⟩ => ⟨S1x256x256, .f32⟩
  | .local _ .vmem, ⟨1, _⟩ => ⟨S1x256x256, .f32⟩
  | .local _ .smem, ⟨0, _⟩ => ⟨S8, .i32⟩
  | _, _ => ⟨S1x256x256, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : Index := Scalar.indexCast v2
  ![v3.toNat]
@[reducible] def k0_t1_loop : Scf.Loop 32 :=
  let c0_i32_0 : BitVec 32 := 0#32
  let c8_i32_1 : BitVec 32 := 8#32
  let v5 : BitVec 32 := Scalar.addi c0_i32_0 c8_i32_1
  let c1_i32_2 : BitVec 32 := 1#32
  ⟨c0_i32_0, v5, c1_i32_2⟩
def k0_off2 (k0_t1 : Fin k0_t1_loop.trips) : Fin 1 → Nat :=
  let c0_i32_0 : BitVec 32 := 0#32
  let c1_i32_2 : BitVec 32 := 1#32
  let arg5 : BitVec 32 := Scf.iv c0_i32_0 c1_i32_2 k0_t1
  let v14 : Index := Scalar.indexCast arg5
  ![v14.toNat]
def k0_dev1 (v6 : BitVec 32) : Nat :=
  let c0_i32_6 : BitVec 32 := 0#32
  let c1_i32_5 : BitVec 32 := 1#32
  let v8 : BitVec 32 := Scalar.muli v6 c1_i32_5
  let v9 : BitVec 32 := Scalar.addi c0_i32_6 v8
  v9.toNat

def k0_chk1 (v6 : BitVec 32) : Prop :=
  ((k0_dev1 v6) < nD)
theorem k0_dev1_lt : ∀ (v6 : BitVec 32) (k0_hw1 : k0_chk1 v6), (k0_dev1 v6) < nD := fun v6 k0_hw1 => k0_hw1

def k0_dev2 (v4 : BitVec 32) : Nat :=
  let c0_i32_9 : BitVec 32 := 0#32
  let c1_i32_8 : BitVec 32 := 1#32
  let v10 : BitVec 32 := Scalar.muli v4 c1_i32_8
  let v11 : BitVec 32 := Scalar.addi c0_i32_9 v10
  v11.toNat

def k0_chk2 (v4 : BitVec 32) : Prop :=
  ((k0_dev2 v4) < nD)
theorem k0_dev2_lt : ∀ (v4 : BitVec 32) (k0_hw2 : k0_chk2 v4), (k0_dev2 v4) < nD := fun v4 k0_hw2 => k0_hw2

abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8x256x256 : Shape := ⟨3, ![8, 256, 256]⟩
abbrev S8 : Shape := ⟨1, ![8]⟩
abbrev S_ : Shape := ⟨0, ![]⟩
abbrev S8x1 : Shape := ⟨2, ![8, 1]⟩

abbrev nBuf : Space → Nat
  | .hbm => 14
  | .vmem => 0
  | .smem => 0
  | _ => 0

abbrev bufTy : (tb : Table) → Fin (tcTables nBuf tb) → BufTy
  | .hbm, ⟨0, _⟩ => ⟨S8x256x256, .f32⟩
  | .hbm, ⟨1, _⟩ => ⟨S8, .i32⟩
  | .hbm, ⟨2, _⟩ => ⟨S8, .i32⟩
  | .hbm, ⟨3, _⟩ => ⟨S8, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i1⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i32⟩
  | .hbm, ⟨12, _⟩ => ⟨S8x1, .i32⟩
  | .hbm, ⟨13, _⟩ => ⟨S8x256x256, .f32⟩
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Cells.lean ====
/-
# The exchange: who signals whom, who copies where, and what each arrival carries

Eight devices and a permutation `σ` of them. Device `c` tells the device whose block it is to receive,
`σ⁻¹ c`, that it has started; waits for the same word from the device it is to send to, `σ c`; copies its
block of `x` into `σ c`'s output buffer; waits until its own copy has been read out; waits until the copy
into its own output buffer has arrived.

Three semaphores a device, each used once:

* the BARRIER of `c`: one unit, from `σ c`. With it comes `σ c`'s output buffer, whatever it holds, to copy
  into, and the mark that `σ c`'s receive semaphore is at its first round;
* the SEND semaphore of `c`: the size of a block, from `c`'s own copy. With it comes `c`'s block of `x` back;
* the RECEIVE semaphore of `c`: the size of a block, from `σ⁻¹ c`'s copy. With it comes `c`'s own output
  buffer, holding `σ⁻¹ c`'s block of `x`.

This module states them as a schedule of the rounds library, one round and one duty to a semaphore, and says
which waits are safe: a device waiting on its barrier owes only a receive semaphore, which is placed above.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Scf
public import Idealize.ShloMosaic.Lib.Tactic

@[expose] public section

noncomputable section

namespace Cert.Exchange

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- Ghost state: the pipeline's rounds beside the exchange's, whose duties carry no name. -/
abbrev UU : Type := UR sig nD τ × URounds (GSem nD τ sig) Unit

local notation "𝕄" => MT nD τ sig Unit (Elt F) ℕ UU ℕ

/-- Where the pipeline's rounds live in it, -/
abbrev EP : Emb (UR sig nD τ) (MT nD τ sig Unit (Elt F) ℕ UU ℕ) := embL
/-- and where the exchange's do. -/
abbrev EX : Emb (URounds (GSem nD τ sig) Unit) (MT nD τ sig Unit (Elt F) ℕ UU ℕ) := embR

-- device `c` sends to `σ c` and receives from `σ.symm c`
variable (σ : Equiv.Perm (Dev nD))
variable (m : (ℓ : Loc nD τ sig) → Buf (Elt F) ℓ) (ρ : Dev nD → PrngReg)

/-- The state a run starts in: any memory, every counter at zero. -/
def begin₀ : MemSt nD τ sig (Elt F) := ⟨m, fun _ => 0, ρ⟩

/-! ## The buffers and the semaphores -/

/-- The staged block of `x`, the staged table, the output block. -/
abbrev xB : Memref sig .tc .vmem S1x256x256 .f32 := Memref.whole cc0_stg0_0
abbrev piB : Memref sig .tc .smem S8 .i32 := Memref.whole cc0_stg1_0
abbrev outB : Memref sig .tc .vmem S1x256x256 .f32 := Memref.whole cc0_stg2_0

/-- The runtime's barrier semaphore, and the kernel's two for its copies. -/
abbrev barS : Sem sig := (SemArray.scalar (sig.barrier 0 rfl) : Sems sig S_).sem
abbrev sendS : DmaSem sig := (cc0_scratch0 : DmaSems sig S_).sem
abbrev recvS : DmaSem sig := (cc0_scratch1 : DmaSems sig S_).sem

/-- The three semaphores by number: 0 the barrier, 1 send, 2 receive. -/
abbrev semNo : Fin 3 → SemLoc sig := fun | 0 => .reg barS | 1 => .dma sendS | 2 => .dma recvS
/-- Semaphore `k` of device `c`. -/
abbrev cellAt (ck : Dev nD × Fin 3) : GSem nD τ sig := ((ck.1 : Thread nD τ), semNo ck.2)
abbrev barC (c : Dev nD) : GSem nD τ sig := ((c : Thread nD τ), .reg barS)
abbrev sendC (c : Dev nD) : GSem nD τ sig := ((c : Thread nD τ), .dma sendS)
abbrev recvC (c : Dev nD) : GSem nD τ sig := ((c : Thread nD τ), .dma recvS)

/-- Which of the three a semaphore is, if it is one. -/
def noOf (s : SemLoc sig) : Option (Fin 3) :=
  if s = semNo 0 then some 0 else if s = semNo 1 then some 1 else if s = semNo 2 then some 2 else none

theorem semNo_inj : Function.Injective semNo := by
  intro a b h
  fin_cases a <;> fin_cases b <;> first | rfl | exact absurd h (by decide)

theorem noOf_semNo (k : Fin 3) : noOf (semNo k) = some k := by
  unfold noOf
  fin_cases k
  · exact if_pos rfl
  · rw [if_neg (fun h => absurd (semNo_inj h) (by decide))]; exact if_pos rfl
  · rw [if_neg (fun h => absurd (semNo_inj h) (by decide)), if_neg (fun h => absurd (semNo_inj h) (by decide))]; exact if_pos rfl

theorem cellAt_inj : Function.Injective (cellAt : Dev nD × Fin 3 → GSem nD τ sig) := fun a b h =>
  Prod.ext (congrArg (fun g : GSem nD τ sig => g.1.1) h) (semNo_inj (congrArg Prod.snd h))

/-- What a copy of one block adds to a semaphore. -/
abbrev size : ℕ := (outB : Memref sig .tc .vmem S1x256x256 .f32).view.dmaCredit
theorem size_pos : 0 < size := View.dmaCredit_pos _ (by decide)

/-- How far each semaphore is raised: one unit, a block, a block. -/
def units : Fin 3 → ℕ := fun | 0 => 1 | 1 => size | 2 => size
theorem units_pos (k : Fin 3) : 0 < units k := by
  fin_cases k
  · exact Nat.one_pos
  · exact size_pos
  · exact size_pos

/-! ## What the buffers hold -/

/-- Device `c`'s block of `x` as the pipeline stages it, -/
def xAt (c : Dev nD) : (cc0_stg0_0 : Ref sig .tc).ty.Contents (Elt F) :=
  (win0_0.blk (0 : Fin 1)).view.read (Elt F) ((begin₀ m ρ).mem ((c : Thread nD τ).loc main_arg0))
/-- its table, -/
def piAt (c : Dev nD) : (cc0_stg1_0 : Ref sig .tc).ty.Contents (Elt F) :=
  (win0_1.blk (0 : Fin 1)).view.read (Elt F) ((begin₀ m ρ).mem ((c : Thread nD τ).loc main_arg1))
/-- and its output block at the end: the block of the device that sends to it. -/
def outAt (c : Dev nD) : (cc0_stg2_0 : Ref sig .tc).ty.Contents (Elt F) := xAt m ρ (σ.symm c)

/-- Device `c`'s staged block of `x`, whole; -/
def xOwn (c : Dev nD) : sProp 𝕄 :=
  (xB : Memref sig .tc .vmem S1x256x256 .f32).view.loc (c : Thread nD τ) ↦[(xB : Memref sig .tc .vmem S1x256x256 .f32).view.set]{fullShare} xAt m ρ c
/-- its output buffer, whole, holding `f`. -/
def outOwn (c : Dev nD) (f : Buf (Elt F) ((outB : Memref sig .tc .vmem S1x256x256 .f32).view.loc (c : Thread nD τ))) : sProp 𝕄 :=
  (outB : Memref sig .tc .vmem S1x256x256 .f32).view.loc (c : Thread nD τ) ↦[(outB : Memref sig .tc .vmem S1x256x256 .f32).view.set]{fullShare} f

omit [FloatOps F] in
instance xOwn_storable (c : Dev nD) : BI.Storable (upEmb : UEmb _ 𝕄) (xOwn (F := F) m ρ c) := by unfold xOwn; infer_instance
omit [FloatOps F] in
instance outOwn_storable (c : Dev nD) (f) : BI.Storable (upEmb : UEmb _ 𝕄) (outOwn (F := F) c f) := by unfold outOwn; infer_instance

omit [FloatOps F] in
theorem xOwn_eq (c : Dev nD) : xOwn m ρ c = (((c : Thread nD τ).loc cc0_stg0_0) ↦{fullShare} xAt m ρ c : sProp 𝕄) := by
  unfold xOwn; rw [View.set_whole]
omit [FloatOps F] in
theorem outOwn_eq (c : Dev nD) (f : Buf (Elt F) ((c : Thread nD τ).loc cc0_stg2_0)) :
    outOwn c f = (((c : Thread nD τ).loc cc0_stg2_0) ↦{fullShare} f : sProp 𝕄) := by
  unfold outOwn; rw [View.set_whole]

omit [FloatOps F] in
/-- A copy of a whole block over a whole block leaves the source's contents. -/
theorem copied (c : Dev nD) (f : Buf (Elt F) ((outB : Memref sig .tc .vmem S1x256x256 .f32).view.loc (c : Thread nD τ)))
    (g : (cc0_stg0_0 : Ref sig .tc).ty.Contents (Elt F)) :
    (outB : Memref sig .tc .vmem S1x256x256 .f32).view.write (Elt F) f ((xB : Memref sig .tc .vmem S1x256x256 .f32).view.read (Elt F) g) Finset.univ = g := by
  show (View.whole cc0_stg2_0).write (Elt F) f ((View.whole cc0_stg0_0).read (Elt F) g) Finset.univ = g
  rw [View.read_whole]
  exact View.write_whole_univ _ _ _

/-! ## The schedule -/

/-- What arrives with semaphore `k` of device `c`. -/
def gift (c : Dev nD) : Fin 3 → sProp 𝕄
  | 0 => iprop((∃ f, outOwn (σ c) f) ∗ reached EX (recvC (σ c)) 0)
  | 1 => xOwn m ρ c
  | 2 => outOwn c (outAt σ m ρ c)

instance gift_storable (c : Dev nD) (k : Fin 3) : BI.Storable (upEmb : UEmb _ 𝕄) (gift (F := F) σ m ρ c k) := by
  fin_cases k
  · show BI.Storable upEmb iprop((∃ f, outOwn (F := F) (σ c) f) ∗ reached EX (recvC (σ c)) 0); infer_instance
  · show BI.Storable upEmb (xOwn (F := F) m ρ c); infer_instance
  · show BI.Storable upEmb (outOwn (F := F) c (outAt σ m ρ c)); infer_instance

/-- One round, one duty: a device's three semaphores and no other. -/
def plan : Rounds.Schedule (GSem nD τ sig) Unit 𝕄 where
  duties g r := if r = 0 ∧ g.1.2 = .tc ∧ (noOf g.2).isSome then {()} else ∅
  unitless _ := False
  amount g _ _ := (noOf g.2).elim 1 units
  payload g _ _ := (noOf g.2).elim iprop(emp) (gift σ m ρ g.1.1)
  amount_pos g _ _ _ := by
    cases noOf g.2 with
    | none => exact Nat.one_pos
    | some k => exact units_pos k

instance plan_payload_storable (g : GSem nD τ sig) (r : ℕ) (d : Unit) :
    BI.Storable (upEmb : UEmb _ 𝕄) ((plan (F := F) σ m ρ).payload g r d) := by
  show BI.Storable upEmb ((noOf g.2).elim iprop(emp) (gift σ m ρ g.1.1))
  cases noOf g.2 with
  | none => show BI.Storable upEmb iprop(emp); infer_instance
  | some k => show BI.Storable upEmb (gift σ m ρ g.1.1 k); infer_instance

section Reads
variable (c : Dev nD) (k : Fin 3)

omit [FloatOps F] in
theorem plan_duties : (plan (F := F) σ m ρ).duties (cellAt (c, k)) 0 = {()} := by
  dsimp only [plan]; rw [noOf_semNo]; exact if_pos ⟨rfl, rfl, rfl⟩
omit [FloatOps F] in
theorem plan_over (g : GSem nD τ sig) : ∀ r, 1 ≤ r → (plan (F := F) σ m ρ).duties g r = ∅ :=
  fun r hr => by dsimp only [plan]; exact if_neg fun h => by omega
omit [FloatOps F] in
theorem plan_amount (d : Unit) : (plan (F := F) σ m ρ).amount (cellAt (c, k)) 0 d = units k := by
  dsimp only [plan]; rw [noOf_semNo]; rfl
omit [FloatOps F] in
theorem plan_payload (d : Unit) : (plan (F := F) σ m ρ).payload (cellAt (c, k)) 0 d = gift σ m ρ c k := by
  dsimp only [plan]; rw [noOf_semNo]; rfl
omit [FloatOps F] in
theorem plan_expect : (plan (F := F) σ m ρ).expect (cellAt (c, k)) 0 = units k := by
  unfold Schedule.expect Schedule.amountOf; rw [plan_duties, Finset.sum_singleton, plan_amount]
omit [FloatOps F] in
/-- All that arrives with the one round. -/
theorem plan_rest : bigSep ((plan (F := F) σ m ρ).duties (cellAt (c, k)) 0 \ ∅) (fun d => (plan (F := F) σ m ρ).payload (cellAt (c, k)) 0 d) = gift σ m ρ c k := by
  rw [Finset.sdiff_empty, plan_duties, bigSep_singleton, plan_payload]
end Reads

/-! ## Debts and levels -/

/-- At the start device `c` owes its target's receive semaphore a block and its source's barrier a unit. -/
def debt (c : Dev nD) : CellTallies nD τ sig Unit := tallyAt (recvC (σ c)) () size + tallyAt (barC (σ.symm c)) () 1

/-- Every TensorCore semaphore has a level: -/
def tags (g : GSem nD τ sig) : Finset Unit := if g.1.2 = .tc then {()} else ∅
/-- the barriers' is 1, the receive semaphores' 2, any other's 0. -/
def level (g : GSem nD τ sig) (_ : Unit) : ℕ := if g.2 = semNo 0 then 1 else if g.2 = semNo 2 then 2 else 0

theorem tags_else (g : GSem nD τ sig) (h : g.1.2 ≠ .tc) : tags g = ∅ := if_neg h
theorem tags_tc (c : Dev nD) (s : SemLoc sig) : tags ((c : Thread nD τ), s) = {()} := if_pos rfl
theorem level_bar (c : Dev nD) : level (barC c) () = 1 := if_pos rfl
theorem level_recv (c : Dev nD) : level (recvC c) () = 2 := by
  unfold level; rw [if_neg (fun h => by cases h)]; exact if_pos rfl

/-- A debt to one semaphore is to that semaphore. -/
theorem of_tally {g g' : GSem nD τ sig} {n : ℕ} {u : Unit} (h : 0 < tallyAt (Ix := Unit) g' () n g u) : g = g' := by
  rw [tallyAt_apply] at h
  by_contra hn
  rw [if_neg (fun h' => hn h'.1)] at h
  exact Nat.lt_irrefl 0 h

theorem of_debt {c : Dev nD} {g : GSem nD τ sig} {u : Unit} (h : 0 < debt σ c g u) : g = recvC (σ c) ∨ g = barC (σ.symm c) := by
  unfold debt at h
  rw [Pi.add_apply, Finsupp.add_apply] at h
  rcases Nat.add_pos_iff_pos_or_pos.mp h with h | h
  · exact .inl (of_tally h)
  · exact .inr (of_tally h)

omit [FloatOps F] in
/-- The pipeline's own waits, at level 0, are below both debts. -/
theorem stage_wait (c : Dev nD) (q : DmaSem sig) (hq : SemLoc.dma q ≠ semNo 2) (O : CellTallies nD τ sig Unit) (hO : O = debt σ c ∨ O = 0) :
    (levAts tags level : sProp 𝕄) ⊢ MayWait (c : Thread nD τ) (.dma q) () O := by
  rcases hO with rfl | rfl
  · refine MayOwe.of_cut (L := tags) (lev := level) 0 (fun p hp => by rw [Finset.mem_singleton.mp hp, tags_tc]; exact Finset.mem_singleton_self _)
      (fun g u hg => by rcases of_debt σ hg with rfl | rfl <;> exact Finset.mem_singleton_self _)
      (fun p hp => by rw [Finset.mem_singleton.mp hp]; dsimp only [level]; rw [if_neg (fun h => by cases h), if_neg hq])
      (fun g u hg => by
        rcases of_debt σ hg with rfl | rfl
        · rw [show level (recvC (σ c)) u = 2 from level_recv _]; decide
        · rw [show level (barC (σ.symm c)) u = 1 from level_bar _]; decide)
  · rw [MayWait_zero]; iintro -; iempintro

omit [FloatOps F] in
/-- So is the barrier's, at level 1, below the debt left when it is reached: a receive semaphore's, at level 2. -/
theorem barrier_wait (c : Dev nD) :
    (levAts tags level : sProp 𝕄) ⊢ MayWait (c : Thread nD τ) (.reg barS) () (tallyAt (recvC (σ c)) () size) :=
  MayOwe.of_cut (L := tags) (lev := level) 1 (fun p hp => by rw [Finset.mem_singleton.mp hp, tags_tc]; exact Finset.mem_singleton_self _)
    (fun g u hg => by rw [of_tally hg]; exact Finset.mem_singleton_self _)
    (fun p hp => by rw [Finset.mem_singleton.mp hp]; exact le_of_eq (level_bar c))
    (fun g u hg => by rw [of_tally hg, show level (recvC (σ c)) u = 2 from level_recv _]; decide)

end Cert.Exchange

end
-- ==== Proof.Search.lean ====
/-
# Reading the table: where a device sends, and the search for who sends to it

Device `c` reads entry `c` of the table, `σ c`, and then every entry `j` in turn, keeping the last `j` whose
entry is `c`. The table is a permutation, so one entry is: before trip `k` the kept word is `σ⁻¹ c` if that is
below `k`, and 0 otherwise; after the eighth it is `σ⁻¹ c`.
-/
module

public import proofs.«01_k».proof.Proof.Cells

@[expose] public section

noncomputable section

namespace Cert.Exchange

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (σ : Equiv.Perm (Dev nD))
variable (m : (ℓ : Loc nD τ sig) → Buf (Elt F) ℓ) (ρ : Dev nD → PrngReg)

/-- Entry `d` of a table of eight. -/
def slot (d : Dev nD) : S8.Idx := fun a => ⟨d.val, by fin_cases a; exact d.isLt⟩

/-- Every device's copy of the table says `σ`. -/
def Tabled : Prop := ∀ c d : Dev nD, (m ((c : Thread nD τ).loc main_arg1) : IVec S8 32) (slot d) = BitVec.ofNat 32 (σ d).val

/-! ## Words -/

/-- The rectangles the two loads read: entry `c`, and a trip's entry. -/
abbrev ownRect (c : Dev nD) : Rect S8 := Rect.unit (s := S8) (k0_off1 c) S1.size (k0_off1_inb c)
abbrev tripRect (k : Fin k0_t1_loop.trips) : Rect S8 := Rect.unit (s := S8) (k0_off2 k) S1.size (k0_off2_inb k)
/-- The word a load of one entry reads. -/
abbrev wordAt (r : Rect S8) (hr : 0 < r.shape.numel) (X : (cc0_stg1_0 : Ref sig .tc).ty.Contents (Elt F)) : BitVec 32 :=
  ((piB : Memref sig .tc .smem S8 .i32).access r : View sig .tc _ _ _).read (Elt F) X (Shape.Idx.first hr)

theorem trips_eq : k0_t1_loop.trips = 8 := by decide
/-- A trip's number as a device. -/
def tripDev (k : Fin k0_t1_loop.trips) : Dev nD := ⟨k.val, lt_of_lt_of_eq k.isLt trips_eq⟩

omit [FloatOps F] in
theorem word_own (h : Tabled σ m) (c : Dev nD) (hr : 0 < (ownRect c).shape.numel) :
    wordAt (F := F) (ownRect c) hr (piAt m ρ c) = BitVec.ofNat 32 (σ c).val := by
  refine Eq.trans ?_ (h c c)
  show m ((c : Thread nD τ).loc main_arg1) _ = _
  refine congrArg _ (funext fun a => Fin.ext ?_)
  fin_cases a; fin_cases c <;> rfl

omit [FloatOps F] in
theorem word_trip (h : Tabled σ m) (c : Dev nD) (k : Fin k0_t1_loop.trips) (hr : 0 < (tripRect k).shape.numel) :
    wordAt (F := F) (tripRect k) hr (piAt m ρ c) = BitVec.ofNat 32 (σ (tripDev k)).val := by
  refine Eq.trans ?_ (h c (tripDev k))
  show m ((c : Thread nD τ).loc main_arg1) _ = _
  refine congrArg _ (funext fun a => Fin.ext ?_)
  fin_cases a; obtain ⟨k, hk⟩ := k
  have h8 : k < 8 := lt_of_lt_of_eq hk trips_eq
  rcases k with _ | _ | _ | _ | _ | _ | _ | _ | k <;> first | rfl | omega

/-- A device's number, as a word, names that device. -/
theorem named_send (d : Dev nD) : k0_chk2 (BitVec.ofNat 32 d.val) := by revert d; decide
theorem named_send_eq (d : Dev nD) (w : BitVec 32) (hw : w = BitVec.ofNat 32 d.val) (hc : k0_chk2 w) :
    (⟨k0_dev2 w, k0_dev2_lt w hc⟩ : Dev nD) = d := by subst hw; revert d; decide
theorem named_signal (d : Dev nD) : k0_chk1 (BitVec.ofNat 32 d.val) := by revert d; decide
theorem named_signal_eq (d : Dev nD) (hc : k0_chk1 (BitVec.ofNat 32 d.val)) :
    (⟨k0_dev1 (BitVec.ofNat 32 d.val), k0_dev1_lt _ hc⟩ : Dev nD) = d := by revert d; decide

/-! ## The search -/

/-- The device's own number as the body computes it. -/
abbrev myWord (c : Dev nD) : BitVec 32 := Scalar.remsi (Scalar.divsi (Dev.word c) 1#32) 8#32

/-- The word kept before trip `k`, `s` the device searched for. -/
def kept (s : Dev nD) (k : ℕ) : BitVec 32 := if s.val < k then BitVec.ofNat 32 s.val else 0#32

theorem kept_zero (s : Dev nD) : kept s 0 = 0#32 := if_neg (Nat.not_lt_zero _)
theorem kept_end (s : Dev nD) : kept s k0_t1_loop.trips = BitVec.ofNat 32 s.val := if_pos (trips_eq ▸ s.isLt)

/-- Comparing two devices' numbers as the body does. -/
theorem same_dev (a c : Dev nD) : Scalar.cmpi .eq (BitVec.ofNat 32 a.val) (myWord c) = if a = c then 1#1 else 0#1 := by
  revert a c; decide

theorem kept_step (c : Dev nD) (k : Fin k0_t1_loop.trips) :
    Scalar.select (Scalar.cmpi .eq (BitVec.ofNat 32 (σ (tripDev k)).val) (myWord c)) (Scf.iv 0#32 1#32 k) (kept (σ.symm c) k.val)
      = kept (σ.symm c) (k.val + 1) := by
  rw [same_dev]
  by_cases h : σ (tripDev k) = c
  · have hs : σ.symm c = tripDev k := by rw [← h, Equiv.symm_apply_apply]
    rw [if_pos h, hs]
    unfold kept
    rw [if_pos (show (tripDev k).val < k.val + 1 from Nat.lt_succ_self _)]
    show Scf.iv 0#32 1#32 k = BitVec.ofNat 32 k.val
    unfold Scf.iv
    simp
  · have hs : (σ.symm c).val ≠ k.val := fun e => h (by
      have : σ.symm c = tripDev k := Fin.ext e
      rw [← this, Equiv.apply_symm_apply])
    rw [if_neg h]
    show kept (σ.symm c) k.val = _
    unfold kept
    by_cases hl : (σ.symm c).val < k.val
    · rw [if_pos hl, if_pos (by omega)]
    · rw [if_neg hl, if_neg (by omega)]

/-- The staged table on device `c`. -/
abbrev piOwn (c : Dev nD) : sProp 𝕄 := (((c : Thread nD τ).loc cc0_stg1_0) ↦{fullShare} piAt m ρ c)

/-- The search, as the body runs it: the table is read, and the word it ends with names the sender. -/
theorem wp_search (h : Tabled σ m) (c : Dev nD) {α : Type} {Q : α → sProp 𝕄}
    {cont : BitVec 32 → Prog (TpuEff nD τ sig (Elt F) Λ₀ .tc) α} :
    piOwn m ρ c ⊢ iprop((piOwn m ρ c -∗ wp frame (wpE (defs₀ (F := F)) Variants.none (c : Thread nD τ) none) Set.univ (cont (BitVec.ofNat 32 (σ.symm c).val)) Q)
      -∗ wp frame (wpE (defs₀ (F := F)) Variants.none (c : Thread nD τ) none) Set.univ
          (Scf.Loop.for k0_t1_loop k0_t1_ok 0#32
            (k0_t1_body (F := F) xB (Memref.isWhole_whole _) piB (Memref.isWhole_whole _) outB (Memref.isWhole_whole _) cc0_scratch0 cc0_scratch1 (myWord c)) >>= cont) Q) := by
  iintro Hpi Hk
  iapply (Scf.wp_for_bind frame (wpE (defs₀ (F := F)) Variants.none (c : Thread nD τ) none) Set.univ k0_t1_loop.lb k0_t1_loop.ub k0_t1_loop.st k0_t1_ok _ _
      (fun k acc => iprop(⌜acc = kept (σ.symm c) k⌝ ∗ piOwn m ρ c)) ?trip) $$ [Hpi]
  · intro k acc
    unfold k0_t1_body
    simp only [smemLoad, smemLoadElt, Prog.lift, Prog.bind_op, Prog.bind_ret, Prog.pure_eq_ret, Prog.bind_assoc]
    iintro ⟨%ha, Hpi⟩
    subst ha
    iapply (wp_load_rect Variants.none (c : Thread nD τ) none Set.univ (m := piB) (r := tripRect k) (Finset.subset_univ _)) $$ Hpi
    iintro Hpi
    rw [wp_ret]; imodintro
    isplitr
    · ipureintro
      refine Eq.trans ?_ (kept_step σ c k)
      rw [← word_trip σ m ρ h c k (numel1_S1.symm ▸ Nat.one_pos)]
    · iexact Hpi
  · isplitr
    · ipureintro; exact (kept_zero _).symm
    · iexact Hpi
  iintro %acc ⟨%ha, Hpi⟩
  rw [ha, show Scf.trips k0_t1_loop.lb k0_t1_loop.ub k0_t1_loop.st = k0_t1_loop.trips from rfl, kept_end]
  iapply Hk
  iexact Hpi

end Cert.Exchange

end
-- ==== Proof.Tables.lean ====
/-
# The tables the precondition admits

Each precondition says that the table every device holds is `0, 1, …, 7` rolled by a fixed amount. So the same
permutation is written on every device, and the exchange is the one that sends device `c`'s block `k` places on,
round the ring of eight.
-/
module

public import proofs.«01_k».proof.Proof.Search
public import proofs.«01_k».proof.Pre_rolled_1_Kernel
public import proofs.«01_k».proof.Pre_rolled_2_Kernel
public import proofs.«01_k».proof.Pre_rolled_3_Kernel
public import proofs.«01_k».proof.Pre_rolled_4_Kernel
public import proofs.«01_k».proof.Pre_rolled_5_Kernel
public import proofs.«01_k».proof.Pre_rolled_6_Kernel
public import proofs.«01_k».proof.Pre_rolled_7_Kernel

@[expose] public section

noncomputable section

namespace Cert.Exchange

open Cert.KernelIdeal Cert.KernelIdeal.Gen
open Idealize.ShloMosaic Idealize.ShloMosaic.TcCoe

variable {F : FTy → Type} [FloatOps F]

/-- The permutation that moves every device's block `k` places on. -/
def shift (k : Fin 8) : Equiv.Perm (Dev nD) where
  toFun c := ⟨(c.val + k.val) % 8, Nat.mod_lt _ (by decide)⟩
  invFun c := ⟨(c.val + (8 - k.val)) % 8, Nat.mod_lt _ (by decide)⟩
  left_inv c := by revert k c; decide
  right_inv c := by revert k c; decide

/-- What the precondition's arithmetic computes at entry `d` is the device `k` places on. -/
theorem rolled_word (k : Fin 8) (d : Dev nD) :
    IntOp.remsi .host (BitVec.ofNat 32 d.val + BitVec.ofNat 32 k.val) 8#32 = BitVec.ofNat 32 (shift k d).val := by
  revert k d; decide

/-- Two words that compare equal are the same word. -/
theorem eq_of_cmpi {a b : BitVec 32} (h : IntOp.cmpi .eq a b = 1#1) : a = b := by
  have key : ∀ p : Bool, BitVec.ofBool p = 1#1 → p = true := by decide
  exact eq_of_beq (key _ h)

/-- A table whose every entry passes the comparison is the rolled one. -/
theorem rolled_entry (k : Fin 8) (t : IVec S8 32) (d : Dev nD)
    (h : IntOp.cmpi .eq (t (slot d)) (IntOp.remsi .host (BitVec.ofNat 32 d.val + BitVec.ofNat 32 k.val) 8#32) = 1#1) :
    t (slot d) = BitVec.ofNat 32 (shift k d).val :=
  (eq_of_cmpi h).trans (rolled_word k d)

variable (m : (ℓ : Loc nD τ sig) → Buf (Elt F) ℓ)

/-- Rolled by 1: entry `d` names the device 7 places on. -/
theorem tabled_1 [Cert.Pre_rolled_1_Kernel.Facts]
    (h : ∀ c : Dev nD, Cert.Pre_rolled_1_Kernel.fn (F := F) (m ((c : Thread nD τ).loc main_arg0)) (m ((c : Thread nD τ).loc main_arg1)) = fun _ => 1#1) :
    Tabled (shift 7) m := fun c d =>
  rolled_entry 7 _ d (congrFun (h c) (slot d))

/-- Rolled by 2: entry `d` names the device 6 places on. -/
theorem tabled_2 [Cert.Pre_rolled_2_Kernel.Facts]
    (h : ∀ c : Dev nD, Cert.Pre_rolled_2_Kernel.fn (F := F) (m ((c : Thread nD τ).loc main_arg0)) (m ((c : Thread nD τ).loc main_arg1)) = fun _ => 1#1) :
    Tabled (shift 6) m := fun c d =>
  rolled_entry 6 _ d (congrFun (h c) (slot d))

/-- Rolled by 3: entry `d` names the device 5 places on. -/
theorem tabled_3 [Cert.Pre_rolled_3_Kernel.Facts]
    (h : ∀ c : Dev nD, Cert.Pre_rolled_3_Kernel.fn (F := F) (m ((c : Thread nD τ).loc main_arg0)) (m ((c : Thread nD τ).loc main_arg1)) = fun _ => 1#1) :
    Tabled (shift 5) m := fun c d =>
  rolled_entry 5 _ d (congrFun (h c) (slot d))

/-- Rolled by 4: entry `d` names the device 4 places on. -/
theorem tabled_4 [Cert.Pre_rolled_4_Kernel.Facts]
    (h : ∀ c : Dev nD, Cert.Pre_rolled_4_Kernel.fn (F := F) (m ((c : Thread nD τ).loc main_arg0)) (m ((c : Thread nD τ).loc main_arg1)) = fun _ => 1#1) :
    Tabled (shift 4) m := fun c d =>
  rolled_entry 4 _ d (congrFun (h c) (slot d))

/-- Rolled by 5: entry `d` names the device 3 places on. -/
theorem tabled_5 [Cert.Pre_rolled_5_Kernel.Facts]
    (h : ∀ c : Dev nD, Cert.Pre_rolled_5_Kernel.fn (F := F) (m ((c : Thread nD τ).loc main_arg0)) (m ((c : Thread nD τ).loc main_arg1)) = fun _ => 1#1) :
    Tabled (shift 3) m := fun c d =>
  rolled_entry 3 _ d (congrFun (h c) (slot d))

/-- Rolled by 6: entry `d` names the device 2 places on. -/
theorem tabled_6 [Cert.Pre_rolled_6_Kernel.Facts]
    (h : ∀ c : Dev nD, Cert.Pre_rolled_6_Kernel.fn (F := F) (m ((c : Thread nD τ).loc main_arg0)) (m ((c : Thread nD τ).loc main_arg1)) = fun _ => 1#1) :
    Tabled (shift 2) m := fun c d =>
  rolled_entry 2 _ d (congrFun (h c) (slot d))

/-- Rolled by 7: entry `d` names the device 1 places on. -/
theorem tabled_7 [Cert.Pre_rolled_7_Kernel.Facts]
    (h : ∀ c : Dev nD, Cert.Pre_rolled_7_Kernel.fn (F := F) (m ((c : Thread nD τ).loc main_arg0)) (m ((c : Thread nD τ).loc main_arg1)) = fun _ => 1#1) :
    Tabled (shift 1) m := fun c d =>
  rolled_entry 1 _ d (congrFun (h c) (slot d))

end Cert.Exchange

end
-- ==== Proof.Steps.lean ====
/-
# The steps of the kernel body

What device `c` starts from, what it ends with, and one lemma for each thing it does to another device or hears
from one: telling its source it has started, hearing from its target, copying to its target, waiting for a copy.
-/
module

public import proofs.«01_k».proof.Proof.Search

@[expose] public section

noncomputable section

namespace Cert.Exchange

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

variable (σ : Equiv.Perm (Dev nD))
variable (m : (ℓ : Loc nD τ sig) → Buf (Elt F) ℓ) (ρ : Dev nD → PrngReg)

/-- No procedure is called. -/
abbrev noVar : Variants := Variants.none

/-! ## What a device starts from -/

section Names
variable (K : Dev nD × Fin 3 → ℕ)

/-- The shared facts device `c` uses: its own three semaphores, its source's barrier, its target's receive. -/
def known (c : Dev nD) : sProp 𝕄 :=
  iprop(cellInv EX (plan σ m ρ) (K (c, 0)) (barC c) ∗ cellInv EX (plan σ m ρ) (K (c, 1)) (sendC c) ∗ cellInv EX (plan σ m ρ) (K (c, 2)) (recvC c)
    ∗ cellInv EX (plan σ m ρ) (K (σ.symm c, 0)) (barC (σ.symm c)) ∗ cellInv EX (plan σ m ρ) (K (σ c, 2)) (recvC (σ c)))

instance known_persistent (c : Dev nD) : BI.Persistent (known (F := F) σ m ρ K c) := by unfold known; infer_instance

/-- With them: it is at the first round of its own three, it knows the first rounds begun, and it holds the
    right to each of the three arrivals it causes. -/
def hand (c : Dev nD) : sProp 𝕄 :=
  iprop(known σ m ρ K c
    ∗ (atPos EX (barC c) 0 ∅ 0 ∗ atPos EX (sendC c) 0 ∅ 0 ∗ atPos EX (recvC c) 0 ∅ 0)
    ∗ (reached EX (barC (σ.symm c)) 0 ∗ reached EX (recvC (σ c)) 0 ∗ reached EX (sendC c) 0 ∗ reached EX (recvC c) 0)
    ∗ (dutyTok EX (barC (σ.symm c)) 0 () ∗ dutyTok EX (recvC (σ c)) 0 () ∗ dutyTok EX (sendC c) 0 ()))

end Names

/-- The start: that, the credit for the two arrivals others cause, the levels. -/
def first (c : Dev nD) : sProp 𝕄 :=
  iprop((∃ K, hand σ m ρ K c) ∗ cred (tallyAt (barC c) () 1) ∗ cred (tallyAt (recvC c) () size) ∗ levAts tags level)

/-- The end: the three semaphores at zero. -/
def last (c : Dev nD) : sProp 𝕄 := iprop(semVal (sendC c) 0 ∗ semVal (recvC c) 0 ∗ semVal (barC c) 0)

/-- The pipeline's data: blocks before and after, the device's state and debt at each end. -/
def dats (_ : Fin 1) (c : Dev nD) : Dat τ (Elt F) Unit ℕ UU ℕ cfg0 c where
  A w := (begin₀ m ρ).mem ((cfg0.win w).arr.view.loc (c : Thread nD τ))
  after w _ := match w with
    | ⟨0, _⟩ => xAt m ρ c
    | ⟨1, _⟩ => piAt m ρ c
    | ⟨2, _⟩ => outAt σ m ρ c
  Φ t := match t with
    | ⟨0, _⟩ => first σ m ρ c
    | ⟨_ + 1, _⟩ => last c
  q _ := fullShare
  owed t := match t with
    | ⟨0, _⟩ => debt σ c
    | ⟨_ + 1, _⟩ => 0

/-- The one point of the pipeline. -/
abbrev pt : Fin cfg0.N := t0_0

omit [FloatOps F] in
theorem whole_owned (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## The steps -/

section Steps
variable (K : Dev nD × Fin 3 → ℕ)

/-- Telling the source: with the word goes this device's output buffer. -/
theorem tell (c n : Dev nD) (hn : n = σ.symm c) (f : Buf (Elt F) ((outB : Memref sig .tc .vmem S1x256x256 .f32).view.loc (c : Thread nD τ))) (W : Waits sig Unit)
    {α : Type} {Q : α → sProp 𝕄} {k : PUnit → Prog (TpuEff nD τ sig (Elt F) Λ₀ .tc) α} :
    iprop(cellInv EX (plan σ m ρ) (K (σ.symm c, 0)) (barC (σ.symm c)) ∗ owes (c : Thread nD τ) (debt σ c) W ∗ dutyTok EX (barC (σ.symm c)) 0 ()
        ∗ reached EX (barC (σ.symm c)) 0 ∗ outOwn c f ∗ reached EX (recvC c) 0)
      ⊢ iprop((owes (c : Thread nD τ) (tallyAt (recvC (σ c)) () size) W -∗ wp frame (wpE (defs₀ (F := F)) noVar (c : Thread nD τ) none) Set.univ (k ⟨⟩) Q)
          -∗ wp frame (wpE (defs₀ (F := F)) noVar (c : Thread nD τ) none) Set.univ (.op (.semSignal (Dev.tc n) barS (1#32 : BitVec 32).toInt) k) Q) := by
  subst hn
  rw [show (1#32 : BitVec 32).toInt = ((1#32 : BitVec 32).toNat : Int) from rfl]
  iintro ⟨HI, HO, Ht, Hr, Hout, Hv⟩ Hk
  iapply (Rounds.wp_signal noVar EX (plan σ m ρ) (c : Thread nD τ) none (dst := (σ.symm c : Thread nD τ)) (κ := K (σ.symm c, 0))
      (d := ()) (by rw [plan_duties σ m ρ (σ.symm c) 0]; exact Finset.mem_singleton_self _) ((plan_amount σ m ρ (σ.symm c) 0 ()).trans (by decide)) ()
      (O₀ := debt σ c) (tallyAt (recvC (σ c)) () size) rfl) $$ [HI HO Ht Hr Hout Hv]
  · isplitl [HI]; · iexact HI
    isplitl [HO]; · iexact HO
    isplitl [Ht]; · iexact Ht
    isplitl [Hout Hv]
    · rw [plan_payload σ m ρ (σ.symm c) 0 ()]; unfold gift; rw [Equiv.apply_symm_apply]
      isplitl [Hout]
      · iexists f; iexact Hout
      iexact Hv
    iexact Hr
  iexact Hk

/-- Waiting for the target's word: its output buffer comes with it. -/
theorem listen (c : Dev nD) (W : Waits sig Unit)
    {α : Type} {Q : α → sProp 𝕄} {k : PUnit → Prog (TpuEff nD τ sig (Elt F) Λ₀ .tc) α} :
    iprop(cellInv EX (plan σ m ρ) (K (c, 0)) (barC c) ∗ cred (tallyAt (barC c) () 1) ∗ owes (c : Thread nD τ) (tallyAt (recvC (σ c)) () size) W
        ∗ levAts tags level ∗ atPos EX (barC c) 0 ∅ 0)
      ⊢ iprop(((owes (c : Thread nD τ) (tallyAt (recvC (σ c)) () size) (insert (SemLoc.reg barS, ()) W) ∗ atPos EX (barC c) (0 + 1) ∅ 0
              ∗ (∃ f, outOwn (σ c) f) ∗ reached EX (recvC (σ c)) 0)
            -∗ wp frame (wpE (defs₀ (F := F)) noVar (c : Thread nD τ) none) Set.univ (k ⟨⟩) Q)
          -∗ wp frame (wpE (defs₀ (F := F)) noVar (c : Thread nD τ) none) Set.univ (.op (.semWait barS (1#32 : BitVec 32).toInt) k) Q) := by
  rw [show (1#32 : BitVec 32).toInt = ((1#32 : BitVec 32).toNat : Int) from rfl]
  iintro ⟨HI, Hc, HO, Hlev, Hat⟩ Hk
  iapply (Rounds.wp_wait_rest_token noVar EX (plan σ m ρ) (c : Thread nD τ) none (κ := K (c, 0))
      (wpE_semWait_eq noVar (c : Thread nD τ) none Set.univ) (Set.mem_univ _) () (O := tallyAt (recvC (σ c)) () size) (W := W) (R := 0) (m := 0) (T := ∅)
      (by rw [plan_expect σ m ρ c 0]; decide)) $$ [HI Hc HO Hlev Hat]
  · isplitl [HI]; · iexact HI
    isplitl [Hc]; · iexact Hc
    isplitl [HO]; · iexact HO
    isplitl [Hlev]; · iapply (barrier_wait σ c); iexact Hlev
    iexact Hat
  iintro ⟨HO, Hat, -, Hg⟩
  ihave Hg := (Entails.of_eq (plan_rest σ m ρ c 0)) $$ Hg
  unfold gift
  icases Hg with ⟨Hf, Hr⟩
  iapply Hk
  isplitl [HO]; · iexact HO
  isplitl [Hat]; · iexact Hat
  isplitl [Hf] <;> iassumption

/-- Copying to the target: the send credit comes back, the debt is paid. -/
theorem pass (c n : Dev nD) (hn : n = σ c) {hsc : (outB : Memref sig (Dev.tc n : Thread nD τ).2.kind .vmem S1x256x256 .f32).view.ref.isScScratch = false}
    {hsrc : (xB : Memref sig .tc .vmem S1x256x256 .f32).view.WordExact} {hdst : (outB : Memref sig .tc .vmem S1x256x256 .f32).view.WordExact}
    {hsem : DmaTarget.Typed .vmem (.dma recvS) (.remote (Dev.tc n : Thread nD τ) (outB : Memref sig .tc .vmem S1x256x256 .f32) (.dma sendS) hsc)}
    (f : Buf (Elt F) ((outB : Memref sig .tc .vmem S1x256x256 .f32).view.loc (σ c : Thread nD τ))) (W : Waits sig Unit)
    {α : Type} {Q : α → sProp 𝕄} {k : PUnit → Prog (TpuEff nD τ sig (Elt F) Λ₀ .tc) α} :
    iprop(cellInv EX (plan σ m ρ) (K (c, 1)) (sendC c) ∗ cellInv EX (plan σ m ρ) (K (σ c, 2)) (recvC (σ c))
        ∗ xOwn m ρ c ∗ outOwn (σ c) f
        ∗ owes (c : Thread nD τ) (tallyAt (recvC (σ c)) () size) W
        ∗ dutyTok EX (sendC c) 0 () ∗ reached EX (sendC c) 0
        ∗ dutyTok EX (recvC (σ c)) 0 () ∗ reached EX (recvC (σ c)) 0)
      ⊢ iprop(((cred (tallyAt (sendC c) () size) ∗ owes (c : Thread nD τ) 0 W) -∗ wp frame (wpE (defs₀ (F := F)) noVar (c : Thread nD τ) none) Set.univ (k ⟨⟩) Q)
          -∗ wp frame (wpE (defs₀ (F := F)) noVar (c : Thread nD τ) none) Set.univ
              (.op (.enqueueDma xB (.remote (Dev.tc n : Thread nD τ) outB (.dma sendS) hsc) (.dma recvS) hsrc hdst hsem) k) Q) := by
  subst hn
  unfold xOwn outOwn
  exact Rounds.wp_send_pointsTo noVar EX (plan σ m ρ) (c : Thread nD τ) none (κ₁ := K (c, 1)) (κ₂ := K (σ c, 2))
    (r₁ := 0) (r₂ := 0) (d₁ := ()) (d₂ := ()) (fd := f)
    (by rw [plan_duties σ m ρ c 1]; exact Finset.mem_singleton_self _) (by rw [plan_duties σ m ρ (σ c) 2]; exact Finset.mem_singleton_self _)
    () () size rfl (plan_amount σ m ρ c 1 ()) (plan_amount σ m ρ (σ c) 2 ()) 0 (by rw [zero_add]) (W := W)
    (by rw [plan_payload σ m ρ c 1 ()]; exact BI.Entails.refl _)
    (by rw [plan_payload σ m ρ (σ c) 2 ()]; unfold gift outOwn; rw [copied, outAt, Equiv.symm_apply_apply])

/-- Waiting for a copy, when nothing is owed: what it carried arrives. `j` is 1 for the send semaphore and 2 for
    the receive semaphore. -/
theorem collect (c : Dev nD) (j : Fin 3) (q : DmaSem sig) (hq : semNo j = .dma q) (hu : units j = size) (W : Waits sig Unit)
    {α : Type} {Q : α → sProp 𝕄} {k : PUnit → Prog (TpuEff nD τ sig (Elt F) Λ₀ .tc) α}
    {src : Memref sig .tc .vmem S1x256x256 .f32} {dst : Memref sig .tc .vmem S1x256x256 .f32} {hs : src.view.WordExact} {hd : dst.view.WordExact}
    (hsz : dst.view.dmaCredit = size) :
    iprop(cellInv EX (plan σ m ρ) (K (c, j)) (cellAt (c, j)) ∗ cred (tallyAt (cellAt (c, j)) () size) ∗ owes (c : Thread nD τ) 0 W
        ∗ atPos EX (cellAt (c, j)) 0 ∅ 0)
      ⊢ iprop(((owes (c : Thread nD τ) 0 (insert (SemLoc.dma q, ()) W) ∗ atPos EX (cellAt (c, j)) (0 + 1) ∅ 0 ∗ gift σ m ρ c j)
            -∗ wp frame (wpE (defs₀ (F := F)) noVar (c : Thread nD τ) none) Set.univ (k ⟨⟩) Q)
          -∗ wp frame (wpE (defs₀ (F := F)) noVar (c : Thread nD τ) none) Set.univ (.op (.waitDma2 q src dst hs hd) k) Q) := by
  have hcell : cellAt (c, j) = ((c : Thread nD τ), SemLoc.dma q) := by rw [← hq]
  have he := plan_expect σ m ρ c j
  have hr := plan_rest σ m ρ c j
  rw [hcell] at he hr ⊢
  iintro ⟨HI, Hc, HO, Hat⟩ Hk
  iapply (Rounds.wp_wait_rest_token noVar EX (plan σ m ρ) (c : Thread nD τ) none (κ := K (c, j))
      (wpE_waitDma2_eq noVar (c : Thread nD τ) none Set.univ) (Set.mem_univ _) () (O := 0) (W := W) (R := 0) (m := 0) (T := ∅)
      (by rw [Nat.zero_add, he, hu, hsz])) $$ [HI Hc HO Hat]
  · isplitl [HI]; · iexact HI
    isplitl [Hc]; · rw [hsz]; iexact Hc
    isplitl [HO]; · iexact HO
    isplitr; · rw [MayWait_zero]; iempintro
    iexact Hat
  iintro ⟨HO, Hat, -, Hg⟩
  ihave Hg := (Entails.of_eq hr) $$ Hg
  iapply Hk
  isplitl [HO]; · iexact HO
  isplitl [Hat]; · iexact Hat
  iexact Hg

/-- A semaphore used up is at zero. -/
theorem used_up (c : Dev nD) (j : Fin 3) :
    iprop(cellInv EX (plan σ m ρ) (K (c, j)) (cellAt (c, j)) ∗ atPos EX (cellAt (c, j)) (0 + 1) ∅ 0) ⊢ (|={Set.univ}=> semVal (cellAt (c, j)) 0 : sProp 𝕄) :=
  Rounds.cell_close EX (plan σ m ρ) (Set.mem_univ (K (c, j))) (fun h => h) (R := 0 + 1) (plan_over σ m ρ (cellAt (c, j)))

end Steps

end Cert.Exchange

end
-- ==== Proof.Body.lean ====
/-
# One device's run of the kernel body

The body taken one effect at a time: the table's own entry, the search, the word to its source, the wait for its target's word, the copy, the two waits
for copies. At the end its three semaphores are at zero again, its block of `x` and its table are as they were,
and its output block is its source's block of `x`.
-/
module

public import proofs.«01_k».proof.Proof.Steps

@[expose] public section

noncomputable section

namespace Cert.Exchange

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

variable (σ : Equiv.Perm (Dev nD))
variable (m : (ℓ : Loc nD τ sig) → Buf (Elt F) ℓ) (ρ : Dev nD → PrngReg)

/-! ## The body -/

section Body
variable (K : Dev nD × Fin 3 → ℕ)

/-- Before the body, the names of the shared facts known. -/
def bodyPre (c : Dev nD) : sProp 𝕄 :=
  iprop((hand σ m ρ K c ∗ cred (tallyAt (barC c) () 1) ∗ cred (tallyAt (recvC c) () size) ∗ levAts tags level)
    ∗ (dats σ m ρ 0 c).owesAt () pt.castSucc
    ∗ (∃ d, held c cc0_stg0_0 ((dats σ m ρ 0 c).before (0 : Fin 3) pt d))
    ∗ (∃ d, held c cc0_stg1_0 ((dats σ m ρ 0 c).before (1 : Fin 3) pt d))
    ∗ (∃ d, held c cc0_stg2_0 ((dats σ m ρ 0 c).before (2 : Fin 3) pt d)))
/-- After it. -/
def bodyPost (c : Dev nD) : sProp 𝕄 :=
  iprop(last c ∗ (dats σ m ρ 0 c).owesAt () pt.succ
    ∗ held c cc0_stg0_0 (xAt m ρ c) ∗ held c cc0_stg1_0 (piAt m ρ c) ∗ held c cc0_stg2_0 (outAt σ m ρ c))

set_option maxHeartbeats 1000000 in
theorem body_runs (ht : Tabled σ m) (c : Dev nD) (Kt : PUnit → sProp 𝕄) :
    iprop(bodyPre σ m ρ K c ∗ (bodyPost σ m ρ c -∗ Kt ⟨⟩))
      ⊢ wp frame (wpE (defs₀ (F := F)) noVar c none) Set.univ
          (cc0_body (F := F) xB (Memref.isWhole_whole _) piB (Memref.isWhole_whole _) outB (Memref.isWhole_whole _) cc0_scratch0 cc0_scratch1) Kt := by
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  unfold bodyPre hand known
  iintro ⟨⟨⟨⟨⟨#HIb, #HIs, #HIv, #HIbS, #HIvT⟩, ⟨HaB, HaS, HaV⟩, ⟨#HrB, #HrT, #HrS, #HrV⟩, HtB, HtV, HtS⟩, HcB, HcV, #Hlev⟩,
    Ho, ⟨%d0, %g0, %hg0, Hx⟩, ⟨%d1, %g1, %hg1, Hpi⟩, ⟨%d2, %g2, %hg2, Hout⟩⟩, Hk⟩
  have h0 : g0 = xAt m ρ c := by rw [hg0]; unfold Dat.before; rw [if_pos (show (cfg0.win (0 : Fin 3)).fetch pt = true from rfl)]; rfl
  subst h0
  have h1 : g1 = piAt m ρ c := by rw [hg1]; unfold Dat.before; rw [if_pos (show (cfg0.win (1 : Fin 3)).fetch pt = true from rfl)]; rfl
  subst h1
  unfold Dat.owesAt Pipeline.owesWithin
  icases Ho with ⟨%W, %hW, HO⟩
  rw [show (dats σ m ρ 0 c).owed pt.castSucc = debt σ c from rfl]
  -- whom to send to
  iapply (wp_load_rect noVar (c : Thread nD τ) none Set.univ (m := piB) (r := ownRect c) (Finset.subset_univ _)) $$ Hpi; iintro Hpi
  have hw := word_own σ m ρ ht c (numel1_S1.symm ▸ Nat.one_pos)
  have hc2 : k0_chk2 (wordAt (F := F) (ownRect c) (numel1_S1.symm ▸ Nat.one_pos) (piAt m ρ c)) := by rw [hw]; exact named_send (σ c)
  simp only [wp_assume_of _ _ _ _ (d := k0_chk2.dec _) hc2]
  -- who sends here
  iapply (wp_search σ m ρ ht c) $$ Hpi
  iintro Hpi
  simp only [wp_assume_of _ _ _ _ (d := k0_chk1.dec _) (named_signal (σ.symm c))]
  -- tell it
  iapply (tell σ m ρ K c _ (named_signal_eq (σ.symm c) (named_signal (σ.symm c))) g2 W) $$ [HO HtB Hout]
  · isplitr; · iexact HIbS
    isplitl [HO]; · iexact HO
    isplitl [HtB]; · iexact HtB
    isplitr; · iexact HrB
    isplitl [Hout]; · rw [outOwn_eq]; iexact Hout
    iexact HrV
  iintro HO
  -- hear from the target
  iapply (listen σ m ρ K c W) $$ [HcB HO HaB]
  · isplitr; · iexact HIb
    isplitl [HcB]; · iexact HcB
    isplitl [HO]; · iexact HO
    isplitr; · iexact Hlev
    iexact HaB
  iintro ⟨HO, HaB, ⟨%f, Hf⟩, -⟩
  -- copy to it
  iapply (pass σ m ρ K c _ (named_send_eq (σ c) _ hw hc2) f _) $$ [Hx Hf HO HtS HtV]
  · isplitr; · iexact HIs
    isplitr; · iexact HIvT
    isplitl [Hx]; · rw [xOwn_eq]; iexact Hx
    isplitl [Hf]; · iexact Hf
    isplitl [HO]; · iexact HO
    isplitl [HtS]; · iexact HtS
    isplitr; · iexact HrS
    isplitl [HtV]; · iexact HtV
    iexact HrT
  iintro ⟨HcS, HO⟩
  -- the copy is out
  iapply (collect σ m ρ K c 1 sendS rfl rfl _ (by rfl)) $$ [HcS HO HaS]
  · isplitr; · iexact HIs
    isplitl [HcS]; · iexact HcS
    isplitl [HO] <;> iassumption
  iintro ⟨HO, HaS, Hx⟩
  -- the source's copy is in
  iapply (collect σ m ρ K c 2 recvS rfl rfl _ (by rfl)) $$ [HcV HO HaV]
  · isplitr; · iexact HIv
    isplitl [HcV]; · iexact HcV
    isplitl [HO] <;> iassumption
  iintro ⟨HO, HaV, Hout⟩
  imod (used_up σ m ρ K c 0) $$ [HaB] with HzB
  · isplitr; · iexact HIb
    iexact HaB
  imod (used_up σ m ρ K c 1) $$ [HaS] with HzS
  · isplitr; · iexact HIs
    iexact HaS
  imod (used_up σ m ρ K c 2) $$ [HaV] with HzV
  · isplitr; · iexact HIv
    iexact HaV
  rw [wp_ret]; imodintro
  iapply Hk
  unfold bodyPost last Dat.owesAt Pipeline.owesWithin
  rw [show (dats σ m ρ 0 c).owed pt.succ = 0 from rfl]
  isplitl [HzB HzS HzV]
  · isplitl [HzS]; · iexact HzS
    isplitl [HzV] <;> iassumption
  isplitl [HO]
  · iexists (insert (SemLoc.dma recvS, ()) (insert (SemLoc.dma sendS, ()) (insert (SemLoc.reg barS, ()) W)))
    isplitr
    · ipureintro; exact fun _ _ => Or.inl trivial
    iexact HO
  isplitl [Hx]
  · iexists _; isplitr; · (ipureintro; rfl)
    iapply (show gift σ m ρ c 1 ⊢ _ from Entails.of_eq (xOwn_eq m ρ c)); iexact Hx
  isplitl [Hpi]
  · iexists _; isplitr; · (ipureintro; rfl)
    iexact Hpi
  iexists _; isplitr; · (ipureintro; rfl)
  iapply (show gift σ m ρ c 2 ⊢ _ from Entails.of_eq (outOwn_eq c (outAt σ m ρ c))); iexact Hout

end Body

/-- Before the body as the pipeline hands it over. -/
def bodyPre' (c : Dev nD) : sProp 𝕄 :=
  iprop(first σ m ρ c ∗ (dats σ m ρ 0 c).owesAt () pt.castSucc
    ∗ (∃ d, held c cc0_stg0_0 ((dats σ m ρ 0 c).before (0 : Fin 3) pt d))
    ∗ (∃ d, held c cc0_stg1_0 ((dats σ m ρ 0 c).before (1 : Fin 3) pt d))
    ∗ (∃ d, held c cc0_stg2_0 ((dats σ m ρ 0 c).before (2 : Fin 3) pt d)))

set_option maxRecDepth 4000 in
/-- What the pipeline asks of the body. -/
theorem body_obligation (ht : Tabled σ m) (c : Dev nD) : BodyObligation (dats (F := F) σ m ρ 0 c) (defs₀ (F := F)) noVar () Set.univ := fun t => by
  rw [fin_N0 t, bigSep_W0, bigSep_W0]
  simp only [whole_owned]
  show bodyPre' σ m ρ c ⊢ wp frame (wpE (defs₀ (F := F)) noVar c none) Set.univ
    (cc0_body (F := F) xB (Memref.isWhole_whole _) piB (Memref.isWhole_whole _) outB (Memref.isWhole_whole _) cc0_scratch0 cc0_scratch1) (fun _ => bodyPost σ m ρ c)
  unfold bodyPre' first
  iintro ⟨⟨⟨%K, Hh⟩, Hr⟩, Ho, Hx, Hpi, Hout⟩
  iapply (body_runs σ m ρ K ht c fun _ => bodyPost σ m ρ c)
  unfold bodyPre
  isplitr []
  · isplitl [Hh Hr]
    · isplitl [Hh] <;> iassumption
    isplitl [Ho]; · iexact Ho
    isplitl [Hx]; · iexact Hx
    isplitl [Hpi] <;> iassumption
  · iintro H; iexact H

end Cert.Exchange

end
-- ==== Proof.Run.lean ====
/-
# The run

The launch: the twenty-four semaphores' schedules are set up at once, the facts about them are shared, and the
right to each arrival goes to the device that causes it. Then every execution under a table that says `σ` ends,
with every device's output holding the `x` of the device that sends to it, the inputs as they were, and every
semaphore at zero. For any float values.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

variable (σ : Equiv.Perm (Dev nD))
variable (m : (ℓ : Loc nD τ sig) → Buf (Elt F) ℓ) (ρ : Dev nD → PrngReg)

/-! ## What the launch hands out -/

/-- The two semaphores that are the kernel's own; the barrier is the runtime's. -/
abbrev ownSem : Fin 2 → SemLoc sig := fun | 0 => .dma sendS | 1 => .dma recvS

theorem own_facts : Pipeline.OwnSemFacts cfg0.spec ownSem := by decide

/-- All the semaphores of the exchange, and the right to the one arrival of each. -/
def cellsOf : Finset (GSem nD τ sig) := Finset.univ.map ⟨cellAt, cellAt_inj⟩
def rightsOf : Finset (GSem nD τ sig × ℕ × Unit) :=
  Finset.univ.map ⟨fun ck : Dev nD × Fin 3 => (cellAt ck, 0, ()), fun _ _ h => cellAt_inj (congrArg Prod.fst h)⟩

/-- The ghost state at the start. -/
def seed : UU := (initOf (Pipeline.cells cfgs cellOf_inj) (Pipeline.launchToks cfgs cellOf_inj), initOf cellsOf rightsOf)

/-- A device's share of it: for each of its three semaphores, the schedule, the position and the right. -/
def share (c : Dev nD) : sProp 𝕄 :=
  iprop((bigSep Finset.univ fun k : Fin 3 => roundState EX (plan σ m ρ) (cellAt (c, k)) 0)
    ∗ (bigSep Finset.univ fun k : Fin 3 => iprop(atPos EX (cellAt (c, k)) 0 ∅ 0 ∗ reached EX (cellAt (c, k)) 0))
    ∗ bigSep Finset.univ fun k : Fin 3 => dutyTok EX (cellAt (c, k)) 0 ())

/-- What the body needs, under some names. -/
def handed (c : Dev nD) : sProp 𝕄 := iprop(∃ K, hand σ m ρ K c)

omit [FloatOps F] in
theorem three (Φ : Fin 3 → sProp 𝕄) : bigSep Finset.univ Φ = iprop(Φ 0 ∗ Φ 1 ∗ Φ 2) := bigSep_univ_eq_bigSepL [0, 1, 2] (by decide) (by decide) Φ

omit [FloatOps F] in
theorem shares : BI.own (EX (initOf cellsOf rightsOf)) ⊢ (|==> bigSep Finset.univ (share σ m ρ) : sProp 𝕄) := by
  have hc (Φ : GSem nD τ sig → sProp 𝕄) : bigSep cellsOf Φ = bigSep Finset.univ fun c : Dev nD => bigSep Finset.univ fun k : Fin 3 => Φ (cellAt (c, k)) := by
    unfold cellsOf; rw [bigSep_map, bigSep_univ_prod]; rfl
  have hr : bigSep rightsOf (fun x => (dutyTok EX x.1 x.2.1 x.2.2 : sProp 𝕄))
      = bigSep Finset.univ fun c : Dev nD => bigSep Finset.univ fun k : Fin 3 => dutyTok EX (cellAt (c, k)) 0 () := by
    unfold rightsOf; rw [bigSep_map, bigSep_univ_prod]; rfl
  iintro H
  imod (Rounds.fund EX (plan σ m ρ) cellsOf rightsOf) $$ H with ⟨Hs, Hm, Ha, Ht⟩
  imodintro
  ihave Hs := (Entails.of_eq (hc fun g => roundState EX (plan σ m ρ) g 0)) $$ Hs
  ihave Ha := (Entails.of_eq (hc fun g => atPos EX g 0 ∅ 0)) $$ Ha
  ihave Hm := (Entails.of_eq (hc fun g => reached EX g 0)) $$ Hm
  ihave Ht := (Entails.of_eq hr) $$ Ht
  unfold share; simp only [bigSep_sep']
  isplitl [Hs]; · iexact Hs
  isplitl [Ha Hm]
  · isplitl [Ha] <;> iassumption
  iexact Ht

omit [FloatOps F] in
theorem own_sems (c : Dev nD) : (Pipeline.ownSems0 (Ix := Unit) (Name := ℕ) (U := UU) (Lvl := ℕ) (Val := Elt F) (τ := τ) ownSem c : sProp 𝕄)
    = iprop(semVal (sendC c) 0 ∗ semVal (recvC c) 0) := by
  rw [Pipeline.ownSems0_eq_of_list c ownSem [0, 1] (by decide) (by decide)]; rfl
omit [FloatOps F] in
theorem free_sems (c : Dev nD) : (unscopedSems0 c : sProp 𝕄) = semVal (barC c) 0 := by
  unfold unscopedSems0; rw [bigSep_eq_bigSepL_of_eq [SemLoc.reg barS] (by decide) (by decide)]; rfl

omit [FloatOps F] in
/-- On one device, the three counters at zero and the three schedules make three shared facts. -/
theorem open_cells (c : Dev nD) :
    iprop(Pipeline.ownSems0 (Ix := Unit) (Name := ℕ) (U := UU) (Lvl := ℕ) (Val := Elt F) (τ := τ) ownSem c ∗ unscopedSems0 c ∗ share σ m ρ c)
      ⊢ |={Set.univ}=> iprop((bigSep Finset.univ fun k : Fin 3 => iprop(∃ κ : ℕ, cellInv EX (plan σ m ρ) κ (cellAt (c, k))))
          ∗ (bigSep Finset.univ fun k : Fin 3 => iprop(atPos EX (cellAt (c, k)) 0 ∅ 0 ∗ reached EX (cellAt (c, k)) 0))
          ∗ bigSep Finset.univ fun k : Fin 3 => dutyTok EX (cellAt (c, k)) 0 ()) := by
  have hv : iprop((semVal (sendC c) 0 ∗ semVal (recvC c) 0) ∗ semVal (barC c) 0) ⊢ (bigSep Finset.univ fun k : Fin 3 => semVal (cellAt (c, k)) 0 : sProp 𝕄) := by
    rw [three]
    iintro ⟨⟨HS, HV⟩, HB⟩
    isplitl [HB]; · iexact HB
    isplitl [HS] <;> iassumption
  have ha : iprop((bigSep Finset.univ fun k : Fin 3 => semVal (cellAt (c, k)) 0) ∗ bigSep Finset.univ fun k : Fin 3 => roundState EX (plan σ m ρ) (cellAt (c, k)) 0)
      ⊢ (|={Set.univ}=> bigSep Finset.univ fun k : Fin 3 => iprop(∃ κ : ℕ, cellInv EX (plan σ m ρ) κ (cellAt (c, k))) : sProp 𝕄) := by
    rw [← bigSep_sep']
    exact (bigSep_mono fun k _ => (Rounds.body_intro EX (plan σ m ρ) (cellAt (c, k))).trans inv_alloc).trans (bigSep_fupd _ _)
  unfold share
  rw [own_sems, free_sems]
  iintro ⟨Ho, Hu, Hs, Hr⟩
  ihave Hv := hv $$ [Ho Hu]
  · isplitl [Ho] <;> iassumption
  imod ha $$ [Hv Hs] with HI
  · isplitl [Hv] <;> iassumption
  imodintro
  isplitl [HI] <;> iassumption

/-! ## Shared facts and dealt rights -/

/-- All the shared facts, all the first rounds begun. -/
def board (K : Dev nD × Fin 3 → ℕ) : sProp 𝕄 :=
  iprop((bigSep Finset.univ fun ck : Dev nD × Fin 3 => cellInv EX (plan σ m ρ) (K ck) (cellAt ck))
    ∗ bigSep Finset.univ fun ck : Dev nD × Fin 3 => reached EX (cellAt ck) 0)

instance board_persistent (K : Dev nD × Fin 3 → ℕ) : BI.Persistent (board (F := F) σ m ρ K) := by unfold board; infer_instance

omit [FloatOps F] in
theorem board_inv (K : Dev nD × Fin 3 → ℕ) (ck : Dev nD × Fin 3) : (board (F := F) σ m ρ K) ⊢ cellInv EX (plan σ m ρ) (K ck) (cellAt ck) := by
  unfold board; iintro ⟨H, -⟩
  iapply (show (bigSep Finset.univ fun ck : Dev nD × Fin 3 => (cellInv EX (plan σ m ρ) (K ck) (cellAt ck) : sProp 𝕄)) ⊢ _ from bigSep_elim (Finset.mem_univ ck))
  iexact H
omit [FloatOps F] in
theorem board_mark (K : Dev nD × Fin 3 → ℕ) (ck : Dev nD × Fin 3) : (board (F := F) σ m ρ K) ⊢ reached EX (cellAt ck) 0 := by
  unfold board; iintro ⟨-, H⟩
  iapply (show (bigSep Finset.univ fun ck : Dev nD × Fin 3 => (reached EX (cellAt ck) 0 : sProp 𝕄)) ⊢ _ from bigSep_elim (Finset.mem_univ ck))
  iexact H

/-- What is one device's alone: where it stands, and the rights to the arrivals it causes. -/
def mine (c : Dev nD) : sProp 𝕄 :=
  iprop((atPos EX (barC c) 0 ∅ 0 ∗ atPos EX (sendC c) 0 ∅ 0 ∗ atPos EX (recvC c) 0 ∅ 0)
    ∗ (dutyTok EX (barC (σ.symm c)) 0 () ∗ dutyTok EX (recvC (σ c)) 0 () ∗ dutyTok EX (sendC c) 0 ()))

omit [FloatOps F] in
theorem handed_of (K : Dev nD × Fin 3 → ℕ) (c : Dev nD) : iprop(board σ m ρ K ∗ mine σ c) ⊢ handed (F := F) σ m ρ c := by
  unfold mine handed hand known
  iintro ⟨#HB, Ha, Ht⟩
  iexists K
  isplitr
  · isplitr; · iapply (board_inv σ m ρ K (c, 0)); iexact HB
    isplitr; · iapply (board_inv σ m ρ K (c, 1)); iexact HB
    isplitr; · iapply (board_inv σ m ρ K (c, 2)); iexact HB
    isplitr; · iapply (board_inv σ m ρ K (σ.symm c, 0)); iexact HB
    iapply (board_inv σ m ρ K (σ c, 2)); iexact HB
  isplitl [Ha]; · iexact Ha
  isplitr
  · isplitr; · iapply (board_mark σ m ρ K (σ.symm c, 0)); iexact HB
    isplitr; · iapply (board_mark σ m ρ K (σ c, 2)); iexact HB
    isplitr; · iapply (board_mark σ m ρ K (c, 1)); iexact HB
    iapply (board_mark σ m ρ K (c, 2)); iexact HB
  iexact Ht

omit [FloatOps F] in
/-- A barrier's right goes to its owner's target, a receive semaphore's to its owner's source. -/
theorem deal : (bigSep Finset.univ fun c : Dev nD => bigSep Finset.univ fun k : Fin 3 => (dutyTok EX (cellAt (c, k)) 0 () : sProp 𝕄))
    ⊢ bigSep Finset.univ fun c : Dev nD => iprop(dutyTok EX (barC (σ.symm c)) 0 () ∗ dutyTok EX (recvC (σ c)) 0 () ∗ dutyTok EX (sendC c) 0 ()) := by
  rw [bigSep_congr (s := Finset.univ) fun (c : Dev nD) _ => three fun k : Fin 3 => (dutyTok EX (cellAt (c, k)) 0 () : sProp 𝕄)]
  rw [bigSep_sep', bigSep_sep', bigSep_sep', bigSep_sep',
    bigSep_univ_equiv σ.symm (fun c : Dev nD => (dutyTok EX (cellAt (c, 0)) 0 () : sProp 𝕄)),
    bigSep_univ_equiv σ (fun c : Dev nD => (dutyTok EX (cellAt (c, 2)) 0 () : sProp 𝕄))]
  iintro ⟨HB, HS, HV⟩
  isplitl [HB]; · iexact HB
  isplitl [HV] <;> iassumption

omit [FloatOps F] in
theorem gather_up :
    (bigSep Finset.univ fun c : Dev nD => iprop((bigSep Finset.univ fun k : Fin 3 => iprop(∃ κ : ℕ, cellInv EX (plan σ m ρ) κ (cellAt (c, k))))
          ∗ (bigSep Finset.univ fun k : Fin 3 => iprop(atPos EX (cellAt (c, k)) 0 ∅ 0 ∗ reached EX (cellAt (c, k)) 0))
          ∗ bigSep Finset.univ fun k : Fin 3 => dutyTok EX (cellAt (c, k)) 0 ()) : sProp 𝕄)
      ⊢ bigSep Finset.univ (handed σ m ρ) := by
  have each (K : Dev nD × Fin 3 → ℕ) : iprop(board σ m ρ K ∗ bigSep Finset.univ (mine (F := F) σ)) ⊢ bigSep Finset.univ (handed σ m ρ) :=
    (sep_mono_left (BI.bigSep_of_persistent Finset.univ (board σ m ρ K))).trans (by
      rw [← bigSep_sep']; exact bigSep_mono fun c _ => handed_of σ m ρ K c)
  have stand : (bigSep Finset.univ fun c : Dev nD => bigSep Finset.univ fun k : Fin 3 => (atPos EX (cellAt (c, k)) 0 ∅ 0 : sProp 𝕄))
      ⊢ bigSep Finset.univ fun c : Dev nD => iprop(atPos EX (barC c) 0 ∅ 0 ∗ atPos EX (sendC c) 0 ∅ 0 ∗ atPos EX (recvC c) 0 ∅ 0) :=
    Entails.of_eq (bigSep_congr fun c _ => three _)
  rw [bigSep_sep', bigSep_sep', ← bigSep_univ_prod (fun ck : Dev nD × Fin 3 => iprop(∃ κ : ℕ, cellInv EX (plan σ m ρ) κ (cellAt ck))),
    bigSep_congr (s := Finset.univ) (fun (c : Dev nD) _ => bigSep_sep' Finset.univ (fun k : Fin 3 => (atPos EX (cellAt (c, k)) 0 ∅ 0 : sProp 𝕄)) (fun k => reached EX (cellAt (c, k)) 0)),
    bigSep_sep', ← bigSep_univ_prod (fun ck : Dev nD × Fin 3 => (reached EX (cellAt ck) 0 : sProp 𝕄))]
  iintro ⟨HI, ⟨Ha, #HM⟩, Ht⟩
  ihave HK := (BI.bigSep_exists_pi Finset.univ (fun (ck : Dev nD × Fin 3) (κ : ℕ) => (cellInv EX (plan σ m ρ) κ (cellAt ck) : sProp 𝕄))) $$ HI
  icases HK with ⟨%K, #HI⟩
  ihave Ht := (deal (F := F) σ) $$ Ht
  iapply (each K)
  isplitr
  · unfold board; isplitl; · iexact HI
    iexact HM
  · iapply (show iprop((bigSep Finset.univ fun c : Dev nD => iprop(atPos EX (barC c) 0 ∅ 0 ∗ atPos EX (sendC c) 0 ∅ 0 ∗ atPos EX (recvC c) 0 ∅ 0))
        ∗ bigSep Finset.univ fun c : Dev nD => iprop(dutyTok EX (barC (σ.symm c)) 0 () ∗ dutyTok EX (recvC (σ c)) 0 () ∗ dutyTok EX (sendC c) 0 ()))
      ⊢ bigSep Finset.univ (mine (F := F) σ) from Entails.of_eq (by rw [← bigSep_sep']; rfl))
    isplitl [Ha]
    · iapply stand
      iexact Ha
    iexact Ht

omit [FloatOps F] in
theorem set_up : (bigSep Finset.univ fun c => iprop(Pipeline.ownSems0 (Ix := Unit) (Name := ℕ) (U := UU) (Lvl := ℕ) (Val := Elt F) (τ := τ) ownSem c
      ∗ unscopedSems0 c ∗ share σ m ρ c) : sProp 𝕄)
    ⊢ |={Set.univ}=> bigSep Finset.univ (handed σ m ρ) :=
  ((bigSep_mono fun c _ => open_cells σ m ρ c).trans (bigSep_fupd _ _)).trans (BI.fupd_mono (gather_up σ m ρ))

/-! ## Credit at the start: what others owe a device -/

theorem bar_inj {a b : Dev nD} (h : barC a = barC b) : a = b := congrArg (fun g : GSem nD τ sig => g.1.1) h
theorem recv_inj {a b : Dev nD} (h : recvC a = recvC b) : a = b := congrArg (fun g : GSem nD τ sig => g.1.1) h

theorem owed_bar (d c : Dev nD) : debt σ d (barC c) () = if d = σ c then 1 else 0 := by
  unfold debt
  rw [Pi.add_apply, Finsupp.add_apply, tallyAt_ne_cell (fun h => by cases congrArg Prod.snd h), Finsupp.zero_apply, Nat.zero_add, tallyAt_apply]
  by_cases h : d = σ c
  · subst h; rw [Equiv.symm_apply_apply, if_pos ⟨rfl, rfl⟩, if_pos rfl]
  · rw [if_neg h, if_neg fun e => h (by rw [bar_inj e.1, Equiv.apply_symm_apply])]

theorem owed_recv (d c : Dev nD) : debt σ d (recvC c) () = if d = σ.symm c then size else 0 := by
  unfold debt
  rw [Pi.add_apply, Finsupp.add_apply, tallyAt_ne_cell (g := barC (σ.symm d)) (fun h => by cases congrArg Prod.snd h), Finsupp.zero_apply, Nat.add_zero, tallyAt_apply]
  by_cases h : d = σ.symm c
  · subst h; rw [Equiv.apply_symm_apply, if_pos ⟨rfl, rfl⟩, if_pos rfl]
  · rw [if_neg h, if_neg fun e => h (by rw [recv_inj e.1, Equiv.symm_apply_apply])]

theorem credit_bar (c : Dev nD) :
    tallyOn (barC c) (launchCredit (Pipeline.owing (debt σ)) 0 (barC c)) = (tallyAt (barC c) () 1 : CellTallies nD τ sig Unit) := by
  unfold tallyAt; refine congrArg _ (Finsupp.ext fun u => ?_); cases u
  rw [Pipeline.launchCredit_owing, Finsupp.single_eq_same, Finset.sum_congr rfl fun d _ => owed_bar σ d c, Finset.sum_ite_eq' Finset.univ (σ c) fun _ => 1,
    if_pos (Finset.mem_univ _)]

theorem credit_recv (c : Dev nD) :
    tallyOn (recvC c) (launchCredit (Pipeline.owing (debt σ)) 0 (recvC c)) = (tallyAt (recvC c) () size : CellTallies nD τ sig Unit) := by
  unfold tallyAt; refine congrArg _ (Finsupp.ext fun u => ?_); cases u
  rw [Pipeline.launchCredit_owing, Finsupp.single_eq_same, Finset.sum_congr rfl fun d _ => owed_recv σ d c, Finset.sum_ite_eq' Finset.univ (σ.symm c) fun _ => size,
    if_pos (Finset.mem_univ _)]

omit [FloatOps F] in
theorem credits (c : Dev nD) : (Pipeline.launchCred (debt σ) c : sProp 𝕄) ⊢ iprop(cred (tallyAt (barC c) () 1) ∗ cred (tallyAt (recvC c) () size)) := by
  unfold Pipeline.launchCred
  rw [bigSep_univ_at _ (SemLoc.reg barS), credit_bar]
  refine sep_mono_right ?_
  rw [← credit_recv σ c]
  exact bigSep_elim (Finset.mem_erase.mpr ⟨fun h => (by cases h), Finset.mem_univ _⟩)

/-! ## The launch's conditions -/

omit [FloatOps F] in
theorem enter (c : Dev nD) :
    iprop(Pipeline.unscopedRestP Pipeline.Prefetch.none cfg0.spec c (fun b => m ((c : Thread nD τ).loc b)) ∗ levAts tags level
        ∗ Pipeline.launchCred (debt σ) c ∗ prngReg c (ρ c) ∗ handed σ m ρ c)
      ⊢ |={Set.univ}=> iprop(first σ m ρ c ∗ emp) := by
  iintro ⟨-, Hl, Hc, -, Hh⟩
  ihave Hc := (credits (F := F) σ c) $$ Hc
  icases Hc with ⟨HB, HV⟩
  imodintro
  unfold first handed
  isplitl
  · isplitl [Hh]; · iexact Hh
    isplitl [HB]; · iexact HB
    isplitl [HV] <;> iassumption
  · iempintro

theorem begin_body (c : Dev nD) :
    iprop(first σ m ρ c ∗ Pipeline.prefHeld Pipeline.Prefetch.none c (fun _ => fullShare.right) (fun k => k.elim0) ∗ Pipeline.scopedRest cfg0.spec c)
      ⊢ (dats σ m ρ 0 c).Φ 0 := by
  rw [show (dats σ m ρ 0 c).Φ 0 = first σ m ρ c from rfl]
  iintro ⟨H, -, -⟩
  iexact H

theorem end_body (c : Dev nD) :
    (dats σ m ρ 0 c).Φ (Fin.last cfg0.N) ⊢ iprop(unscopedSems0 c ∗ Pipeline.ownSems0 ownSem c ∗ Pipeline.scopedRest cfg0.spec c) := by
  rw [show (dats σ m ρ 0 c).Φ (Fin.last cfg0.N) = last c from rfl, scopedRest0_eq, own_sems, free_sems]
  unfold last
  iintro ⟨HS, HV, HB⟩
  isplitl [HB]; · iexact HB
  isplitl
  · isplitl [HS] <;> iassumption
  · iempintro

theorem stage_waits (c : Dev nD) : (levAts tags level : sProp 𝕄) ⊢ Pipeline.cellsWaits cfgs (dats σ m ρ) () 0 c :=
  Pipeline.cellsWaits_intro cfgs (dats σ m ρ) () 0 c fun w s t =>
    stage_wait σ c _ (by fin_cases w <;> fin_cases s <;> decide) _ (by
      rcases t with ⟨_ | _, ht⟩
      · exact Or.inl rfl
      · exact Or.inr rfl)

theorem share_full (c : Dev nD) (w : Fin cfg0.W) : (dats σ m ρ 0 c).share w = fullShare := by unfold Dat.share; split <;> rfl

/-! ## The run -/

/-- Array `w` of device `c` at the end. -/
def atEnd (c : Dev nD) (w : Fin cfg0.W) : Buf (Elt F) ((cfg0.win w).arr.view.loc (c : Thread nD τ)) := (dats σ m ρ 0 c).arrAt w cfg0.N

/-- Every array at its end contents. -/
def Ended : PUnit × MemSt nD τ sig (Elt F) → Prop := fun r =>
  ∀ c : Dev nD, ∀ w : Fin cfg0.W, r.2.mem ((cfg0.win w).arr.view.loc (c : Thread nD τ)) = atEnd σ m ρ c w

set_option maxRecDepth 8000 in
theorem run_main (ht : Tabled σ m) : θ_run defs (onTc (τ := τ) (main (F := F))) (begin₀ m ρ) (fun r => Ended σ m ρ r ∧ r.2.sem = fun _ => 0) :=
  Pipeline.θ_run_region_owing_glob_pf (fun p => (cfgs p).toPCfg) (fun p => (cfgs p).toPCfg_adm) (dats σ m ρ) () cellOf_inj (0 : Fin 1)
    winFacts0.to₀ own_facts (Pipeline.PreFacts.none _) EP defs₀ noVar m ρ main
    (hmain := fun _ => rfl)
    (hbody := fun c => (body_obligation σ m ρ ht c).loose) (hne := block_pos0) (harr := arr_whole0) (hstage := stage_whole0) (hshare := share_full σ m ρ)
    (hdistinct := winFacts0.arr_inj)
    (O₀ := debt σ) (howed₀ := fun _ => rfl) (howedN := fun _ => rfl)
    (L := tags) (lv := level) (hL := tags_else) (hwaits := stage_waits σ m ρ)
    (G := share σ m ρ) (G' := handed σ m ρ) (u₀ := seed)
    (hu₀ := by
      unfold seed
      iintro H
      ihave H := (ownU_pair _ _) $$ H
      icases H with ⟨HP, HX⟩
      imod (shares σ m ρ) $$ HX with HX
      imodintro
      isplitl [HP] <;> iassumption)
    (hglob := set_up σ m ρ)
    (hA := fun _ _ => rfl) (hpf := fun _ k => k.elim0)
    (X := first σ m ρ) (Y := fun c => unscopedSems0 c) (Z := fun _ => iprop(emp))
    (hX := enter σ m ρ) (hin := begin_body σ m ρ) (hout := end_body σ m ρ)
    (QY := fun c s => ∀ q : SemLoc sig, q.isScoped .tc = false → s.sem ((c.tc : Thread nD τ), q) = 0)
    (hY := fun c s => by
      iintro ⟨Hu, -, HS⟩
      iapply (Pipeline.unscopedSems0_read (X := unscopedSems0 c) (c := c) fupd_intro s)
      isplitl [Hu] <;> iassumption)
    (hQ := fun _ h hs => ⟨fun c w => (h c).1 w, sem_eq_zero hs fun c => (h c).2.2⟩)

/-! ## The arrays at the end -/

theorem end_x (c : Dev nD) : atEnd σ m ρ c (0 : Fin 3) = m ((c : Thread nD τ).loc main_arg0) := (dats (F := F) σ m ρ 0 c).arrAt_in (0 : Fin 3) rfl _
theorem end_pi (c : Dev nD) : atEnd σ m ρ c (1 : Fin 3) = m ((c : Thread nD τ).loc main_arg1) := (dats (F := F) σ m ρ 0 c).arrAt_in (1 : Fin 3) rfl _

/-- An array of one block is read whole: into the first input's buffer, -/
theorem read_x (f : (main_arg0 : Ref sig .tc).ty.Contents (Elt F)) : (win0_0.blk (0 : Fin 1)).view.read (Elt F) f = f :=
  Memref.read_access_unit_zero (Elt F) main_arg0 (funext fun a => by fin_cases a <;> rfl) _ f
/-- and back out of the output's. -/
theorem read_out (f : (main_v1 : Ref sig .tc).ty.Contents (Elt F)) : (win0_2.blk (0 : Fin 1)).view.read (Elt F) f = f :=
  Memref.read_access_unit_zero (Elt F) main_v1 (funext fun a => by fin_cases a <;> rfl) _ f

/-- Every output array ends as its source's `x`. -/
theorem end_out (c : Dev nD) : atEnd σ m ρ c (2 : Fin 3) = m (((σ.symm c : Dev nD) : Thread nD τ).loc main_arg0) := by
  refine (read_out (atEnd σ m ρ c (2 : Fin 3))).symm.trans (Eq.trans ?_ (read_x (m (((σ.symm c : Dev nD) : Thread nD τ).loc main_arg0))))
  unfold atEnd
  rw [show cfg0.N = ((0 : Fin 1) : Fin cfg0.N).val + 1 from rfl, (dats σ m ρ 0 c).arrAt_succ (2 : Fin 3) (0 : Fin 1),
    show (cfg0.win (2 : Fin 3)).flush (0 : Fin 1) = true from rfl, if_pos rfl]
  exact View.read_write_univ _ _

end Cert.Exchange

end
-- ==== Proof.Value.lean ====
/-
# The reference's value

The reference sorts the positions of the table by what the table says and takes the blocks of `x` in that order.
Where the table says `σ`, the block at place `d` is the one at place `σ⁻¹ d`: the one that was sent to `d`.
-/
module

public import proofs.«01_k».proof.Proof.Search
public import proofs.«01_k».proof.Proof.Gen.ReferenceIdeal.Run
public import Idealize.ShloMosaic.Lib.SortNet.HostSort
public import Idealize.ShloMosaic.Lib.Layout

@[expose] public section

noncomputable section

namespace Cert.Exchange.Value

open Cert.ReferenceIdeal Cert.ReferenceIdeal.Gen
open Idealize.ShloMosaic Idealize.ShloMosaic.TcCoe

/-! ## The sort -/

/-- The comparison of two device numbers as signed words is the comparison of the numbers. -/
theorem slt_small (a b : Fin 8) : (IntOp.cmpi .slt (BitVec.ofNat 32 a.val) (BitVec.ofNat 32 b.val) == 1#1) = decide (a.val < b.val) := by
  revert a b; decide

/-- Sorting the eight positions by a permutation puts at place `d` the position it sends to `d`. -/
theorem sorted_perm (σ : Equiv.Perm (Fin 8)) (d : Fin 8) : sortedFrom (fun a b => decide ((σ a).val < (σ b).val)) d = σ.symm d := by
  have hperm : (List.ofFn fun i => σ.symm i).Perm (List.finRange 8) := Equiv.Perm.ofFn_comp_perm σ.symm (fun i => i)
  have hs : (List.ofFn fun i => σ.symm i).Pairwise fun a b => (σ a).val < (σ b).val := by
    rw [List.pairwise_ofFn]
    intro i j hij
    rw [σ.apply_symm_apply, σ.apply_symm_apply]
    exact hij
  have hd : d.val < (List.ofFn fun i => σ.symm i).length := by rw [List.length_ofFn]; exact d.isLt
  rw [SortNet.sortedFrom_eq_getElem_of_pairwise_lt (fun a => (σ a).val) _ hperm hs d hd, List.getElem_ofFn]

/-- Moving along the one axis of an index of the table to `k` gives entry `k`. -/
theorem along_slot (j : S8.Idx) (k : Fin 8) : j.along (0 : Fin 1) k = slot k := by
  rw [Shape.Idx.along_rank1]
  rfl

/-- The reference's sorted positions, where the table says `σ`. -/
theorem argsort_at (σ : Equiv.Perm (Fin 8)) (t : IVec S8 32) (ht : ∀ d : Fin 8, t (slot d) = BitVec.ofNat 32 (σ d).val) (d : Fin 8) :
    (Host.sort2 S8 0 comparator_i32_i32_d0 t (iotaInDim S8 32 0)).2 (slot d) = BitVec.ofNat 32 (σ.symm d).val := by
  have hkey : ∀ y : S8.Idx → BitVec 32, (fun k k' : Fin 8 => comparator_i32_i32_d0 (t ((slot d).along (0 : Fin 1) k), y ((slot d).along (0 : Fin 1) k))
      (t ((slot d).along (0 : Fin 1) k'), y ((slot d).along (0 : Fin 1) k')) == 1#1) = fun k k' => decide ((σ k).val < (σ k').val) := fun y => by
    funext k k'
    rw [along_slot, along_slot]
    show (IntOp.cmpi .slt (t (slot k)) (t (slot k')) == 1#1) = _
    rw [ht, ht]
    exact slt_small _ _
  have hsrc := (congrArg (fun B => sortedFrom (n := 8) B d) (hkey (iotaInDim S8 32 0))).trans (sorted_perm σ d)
  have hfin : iotaInDim S8 32 0 ((slot d).along (0 : Fin 1) (σ.symm d)) = BitVec.ofNat 32 (σ.symm d).val := by
    rw [along_slot]; rfl
  exact (congrArg (fun k : Fin 8 => iotaInDim S8 32 0 ((slot d).along (0 : Fin 1) k)) hsrc).trans hfin

/-! ## The gather -/

/-- Row `d` of the one-column array of positions. -/
def row (d : Fin 8) : S8x1.Idx := fun | ⟨0, _⟩ => d | ⟨1, _⟩ => (0 : Fin 1)

/-- An index of the whole array moved to block `e`. -/
def atBlock (e : Fin 8) (j : S8x256x256.Idx) : S8x256x256.Idx := fun | ⟨0, _⟩ => e | ⟨1, _⟩ => j 1 | ⟨2, _⟩ => j 2

/-- The record of the reference's gather. -/
local notation "take8" => gather_S8x256x256_S8x1_S8x256x256_12_0_n_n_0_1_1256256

/-- A device number read as a signed word, kept within the eight blocks, is itself. -/
theorem clamp_small (e : Fin 8) : min (BitVec.ofNat 32 e.val).toInt.toNat (8 - 1) = e.val := by revert e; decide

/-- The position the gather reads for a result index is the one in the row of that index's block. -/
theorem row_read (j : S8x256x256.Idx) (c : Fin (GatherDims.startIndexMap take8).length) : GatherDims.siIdx take8 j c = row (j 0) := by
  funext b
  fin_cases b
  · exact Fin.ext rfl
  · exact Subsingleton.elim (α := Fin 1) _ _

/-- The gather takes whole blocks: where the row of an index's block names block `e`, the result there is block `e`. -/
theorem take_at {α : Type} (x : S8x256x256.Idx → α) (idx : IVec S8x1 32) (j : S8x256x256.Idx) (e : Fin 8)
    (h : idx (row (j 0)) = BitVec.ofNat 32 e.val) : Host.gather take8 x idx j = x (atBlock e j) := by
  refine congrArg x (funext fun a => Fin.ext ?_)
  have hb : ∀ a : Fin 3, a ∉ GatherDims.operandBatchingDims take8 := fun a => List.not_mem_nil
  show GatherDims.start take8 j idx a + GatherDims.batchCoord take8 j a + GatherDims.offCoord take8 j a = _
  rw [GatherDims.batchCoord_eq_zero _ _ _ (hb a), Nat.add_zero]
  fin_cases a
  · rw [GatherDims.offCoord_eq_zero _ _ _ (by decide), Nat.add_zero]
    unfold GatherDims.start
    refine (dif_pos (show (0 : Fin 3) ∈ GatherDims.startIndexMap take8 from List.mem_singleton.mpr rfl)).trans ?_
    rw [row_read, h]
    exact clamp_small e
  · exact (Nat.zero_add _).trans rfl
  · exact (Nat.zero_add _).trans rfl

/-! ## The whole reference -/

/-- The reference's sorted positions. -/
abbrev order (t : IVec S8 32) : IVec S8 32 := (Host.sort2 S8 0 comparator_i32_i32_d0 t (iotaInDim S8 32 0)).2

/-- The positions the reference takes blocks at: the sorted ones, a negative one counted from the end. -/
abbrev taken (t : IVec S8 32) : IVec S8x1 32 :=
  broadcastInDim S8x1 ![0] bcast_S8_S8x1_0
    (select (cmpi .slt (order t) (broadcastInDim S8 ![] bcast_S_S8 (constantI S_ 32 0#32)))
      (addi (order t) (broadcastInDim S8 ![] bcast_S_S8 (constantI S_ 32 8#32))) (order t))

/-- The reference's result from its two arguments. -/
abbrev refOut {α : Type} (x : S8x256x256.Idx → α) (t : IVec S8 32) : S8x256x256.Idx → α := Host.gather take8 x (taken t)

/-- No device number is negative, so none is counted from the end. -/
theorem wrap_small (e : Fin 8) :
    (if IntOp.cmpi .slt (BitVec.ofNat 32 e.val) 0#32 = 1#1 then IntOp.addi (BitVec.ofNat 32 e.val) 8#32 else BitVec.ofNat 32 e.val)
      = BitVec.ofNat 32 e.val := by
  revert e; decide

/-- Where the table says `σ`, row `d` of the positions is the device that sends to `d`. -/
theorem taken_at (σ : Equiv.Perm (Fin 8)) (t : IVec S8 32) (ht : ∀ d : Fin 8, t (slot d) = BitVec.ofNat 32 (σ d).val) (d : Fin 8) :
    taken t (row d) = BitVec.ofNat 32 (σ.symm d).val := by
  have hrow : ∀ v : IVec S8 32, broadcastInDim S8x1 ![0] bcast_S8_S8x1_0 v (row d) = v (slot d) := fun v =>
    congrArg v (funext fun a => by fin_cases a; rfl)
  rw [taken, hrow]
  show (if IntOp.cmpi .slt (order t (slot d)) 0#32 = 1#1 then IntOp.addi (order t (slot d)) 8#32 else order t (slot d)) = _
  rw [show order t (slot d) = BitVec.ofNat 32 (σ.symm d).val from argsort_at σ t ht d]
  exact wrap_small _

/-- Block `d` of the reference's result is the block of `x` that the table sends to `d`. -/
theorem block_refOut {α : Type} (σ : Equiv.Perm (Fin 8)) (x : S8x256x256.Idx → α) (t : IVec S8 32)
    (ht : ∀ d : Fin 8, t (slot d) = BitVec.ofNat 32 (σ d).val) (h : Layout.Tiles ⟨3, ![1, 256, 256]⟩ S8x256x256 0 8) (d : Fin 8) :
    Layout.block ⟨3, ![1, 256, 256]⟩ S8x256x256 0 8 d (refOut x t) h
      = Layout.block ⟨3, ![1, 256, 256]⟩ S8x256x256 0 8 (σ.symm d) x h := by
  funext i
  have hi : (i 0).val = 0 := Nat.lt_one_iff.mp (i 0).isLt
  have h0 : h.idx d i 0 = d := Fin.ext (by
    show d.val * 1 + (i 0).val = d.val
    omega)
  rw [Layout.block_apply, Layout.block_apply]
  rw [refOut, take_at x (taken t) (h.idx d i) (σ.symm d) (by rw [h0]; exact taken_at σ t ht d)]
  refine congrArg x (funext fun a => ?_)
  fin_cases a
  · refine Fin.ext ?_
    show (σ.symm d).val = (σ.symm d).val * 1 + (i 0).val
    omega
  · rfl
  · rfl

end Cert.Exchange.Value

end
-- ==== Proof.Claims.lean ====
/-
# The claims, for any table

Under a table that says `σ` on every device: the kernel's frame for any float values, the reference's frame, and
the value, which is that device `d`'s output is block `d` of what the reference computes over the whole arrays.
-/
module

public import proofs.«01_k».proof.Proof.Run
public import proofs.«01_k».proof.Proof.Value

@[expose] public section

noncomputable section

namespace Cert.Exchange

open Cert.KernelIdeal Cert.KernelIdeal.Gen
open Idealize.ShloMosaic Idealize.ShloMosaic.TcCoe Idealize.SL.Sem

variable {F : FTy → Type} [FloatOps F]

variable (σ : Equiv.Perm (Dev nD))
variable (m : (ℓ : Loc nD τ sig) → Buf (Elt F) ℓ) (ρ : Dev nD → PrngReg)

/-- Every execution ends, with the inputs as they were and every semaphore at zero. -/
theorem kernel_frame (ht : Tabled σ m) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono
    (fun _ h => ⟨fun c => ⟨(h.1 c (0 : Fin 3)).trans (end_x σ m ρ c), (h.1 c (1 : Fin 3)).trans (end_pi σ m ρ c)⟩, h.2⟩)
    (run_main σ m ρ ht)

/-- Every execution ends with every device's output holding the `x` of the device the table sends to it. -/
theorem kernel_value (ht : Tabled σ m) :
    θ_run defs (onTc (τ := τ) (main (F := F))) ⟨m, fun _ => 0, ρ⟩ fun r => ∀ c : Dev nD,
      r.2.mem ((c : Thread nD τ).loc main_v1) = m (((σ.symm c : Dev nD) : Thread nD τ).loc main_arg0)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun _ h c => ⟨(h.1 c (2 : Fin 3)).trans (end_out σ m ρ c), (h.1 c (0 : Fin 3)).trans (end_x σ m ρ c),
      (h.1 c (1 : Fin 3)).trans (end_pi σ m ρ c)⟩)
    (run_main σ m ρ ht)

/-- The reference ends with its inputs as they were; it has no semaphore. -/
theorem reference_frame (m' : (ℓ : Loc Cert.ReferenceIdeal.nD Cert.ReferenceIdeal.τ Cert.ReferenceIdeal.sig) → Buf (Elt F) ℓ)
    (ρ' : Dev Cert.ReferenceIdeal.nD → PrngReg) :
    θ_run Cert.ReferenceIdeal.defs (onTc (τ := Cert.ReferenceIdeal.τ) (Cert.ReferenceIdeal.main (F := F))) ⟨m', fun _ => 0, ρ'⟩ fun r =>
      (∀ c : Dev Cert.ReferenceIdeal.nD,
        r.2.mem ((c : Thread Cert.ReferenceIdeal.nD Cert.ReferenceIdeal.τ).loc Cert.ReferenceIdeal.main_arg0) = m' ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1) = m' ((c : Thread Cert.ReferenceIdeal.nD Cert.ReferenceIdeal.τ).loc Cert.ReferenceIdeal.main_arg1))
      ∧ r.2.sem = fun _ => 0 :=
  (θ_run Cert.ReferenceIdeal.defs _ _).mono
    (fun r h => ⟨fun c => (h c).2, sem_eq_zero_of_no_sems (by decide) r.2⟩)
    (Cert.ReferenceIdeal.Value.run m' ρ')

/-- The table as the one device of the reference holds it. -/
abbrev refTable (m' : (ℓ : Loc Cert.ReferenceIdeal.nD Cert.ReferenceIdeal.τ Cert.ReferenceIdeal.sig) → Buf (Elt F) ℓ) : IVec S8 32 :=
  m' (((0 : Dev Cert.ReferenceIdeal.nD) : Thread Cert.ReferenceIdeal.nD Cert.ReferenceIdeal.τ).loc Cert.ReferenceIdeal.main_arg1)

/-- The whole `x` as the one device of the reference holds it. -/
abbrev refX (m' : (ℓ : Loc Cert.ReferenceIdeal.nD Cert.ReferenceIdeal.τ Cert.ReferenceIdeal.sig) → Buf (Elt F) ℓ) :
    Cert.ReferenceIdeal.S8x256x256.Idx → F .f32 :=
  m' (((0 : Dev Cert.ReferenceIdeal.nD) : Thread Cert.ReferenceIdeal.nD Cert.ReferenceIdeal.τ).loc Cert.ReferenceIdeal.main_arg0)

/-- From inputs that are the parts of the reference's, both programs end, and each device's output is its block of the
    reference's result. -/
theorem same_value (ht : Tabled σ m)
    (m' : (ℓ : Loc Cert.ReferenceIdeal.nD Cert.ReferenceIdeal.τ Cert.ReferenceIdeal.sig) → Buf (Elt F) ℓ)
    (ρ' : Dev Cert.ReferenceIdeal.nD → PrngReg)
    (hargs : ∀ c : Dev nD,
      m ((c : Thread nD τ).loc main_arg0) = Layout.block ⟨3, ![1, 256, 256]⟩ ⟨3, ![8, 256, 256]⟩ 0 8 c (refX m')
      ∧ m ((c : Thread nD τ).loc main_arg1) = refTable m') :
    ∃ v : Buf (Elt F) (((0 : Dev Cert.ReferenceIdeal.nD) : Thread Cert.ReferenceIdeal.nD Cert.ReferenceIdeal.τ).loc Cert.ReferenceIdeal.main_v7),
      (θ_run defs (onTc (τ := τ) (main (F := F))) ⟨m, fun _ => 0, ρ⟩ fun r => ∀ c : Dev nD,
        r.2.mem ((c : Thread nD τ).loc main_v1) = Layout.block ⟨3, ![1, 256, 256]⟩ ⟨3, ![8, 256, 256]⟩ 0 8 c v
        ∧ r.2.mem ((c : Thread nD τ).loc main_arg0) = m ((c : Thread nD τ).loc main_arg0)
        ∧ r.2.mem ((c : Thread nD τ).loc main_arg1) = m ((c : Thread nD τ).loc main_arg1))
      ∧ θ_run Cert.ReferenceIdeal.defs (onTc (τ := Cert.ReferenceIdeal.τ) (Cert.ReferenceIdeal.main (F := F))) ⟨m', fun _ => 0, ρ'⟩ fun r =>
        r.2.mem (((0 : Dev Cert.ReferenceIdeal.nD) : Thread Cert.ReferenceIdeal.nD Cert.ReferenceIdeal.τ).loc Cert.ReferenceIdeal.main_v7) = v
        ∧ r.2.mem (((0 : Dev Cert.ReferenceIdeal.nD) : Thread Cert.ReferenceIdeal.nD Cert.ReferenceIdeal.τ).loc Cert.ReferenceIdeal.main_arg0) = refX m'
        ∧ r.2.mem (((0 : Dev Cert.ReferenceIdeal.nD) : Thread Cert.ReferenceIdeal.nD Cert.ReferenceIdeal.τ).loc Cert.ReferenceIdeal.main_arg1) = refTable m' := by
  have ht' : ∀ d : Fin 8, refTable m' (slot d) = BitVec.ofNat 32 (σ d).val := fun d =>
    (congrFun (hargs 0).2 (slot d)).symm.trans (ht 0 d)
  refine ⟨Value.refOut (refX m') (refTable m'), ?_, ?_⟩
  · refine (θ_run defs _ _).mono (fun _ h c => ⟨(h c).1.trans ?_, (h c).2⟩) (kernel_value σ m ρ ht)
    exact (hargs (σ.symm c)).1.trans (Value.block_refOut σ (refX m') (refTable m') ht' (by decide) c).symm
  · exact (θ_run Cert.ReferenceIdeal.defs _ _).mono (fun _ h => h 0) (Cert.ReferenceIdeal.Value.run m' ρ')

end Cert.Exchange

end
-- ==== Proof.Printed.lean ====
/-
# The two printings of the kernel are one program

The idealization rewrites nothing, so the kernel as printed and its idealization are the same text. Their body
tables are equal, and what is proved of the one holds of the other.
-/
module

public import proofs.«01_k».proof.Proof.Claims
public import proofs.«01_k».proof.Proof.Gen.Kernel

@[expose] public section

noncomputable section

namespace Cert.Exchange

open Idealize.ShloMosaic Idealize.ShloMosaic.TcCoe Idealize.SL.Sem

variable {F : FTy → Type} [FloatOps F]

/-- The kernel's bodies. -/
theorem same_bodies : Cert.Kernel.defs₀ (F := F) = Cert.KernelIdeal.defs₀ := by
  refine congrArg Defs.onTc (funext fun l => funext fun a => ?_)
  match l, a with
  | 0, (t, s) => rfl
  | ⟨_ + 1, h⟩, _ => exact absurd h (Nat.not_lt.2 (Nat.le_add_left _ _))

/-- The bodies together with the copies in and out around them. -/
theorem same_defs : Cert.Kernel.defs (F := F) = Cert.KernelIdeal.defs := congrArg (Pipeline.defs _) same_bodies

open Cert.Kernel in
/-- The frame of the kernel as printed. -/
theorem printed_frame (σ : Equiv.Perm (Dev Cert.KernelIdeal.nD)) (m : (ℓ : Loc nD τ sig) → Buf (Elt F) ℓ) (ρ : Dev nD → PrngReg) (ht : Tabled (F := F) σ m) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0 := by
  rw [same_defs]
  exact kernel_frame σ m ρ ht

end Cert.Exchange

end
-- ==== Proof.lean ====
/-
# Every claim

The kernel sends each device's block of `x` to the device the table names. Each precondition fixes the table, so
each claim is the general one (Proof/Claims.lean) at the permutation that table is (Proof/Tables.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_rolled_1_Kernel
public import proofs.«01_k».proof.Proof.Gen.Pre_rolled_2_Kernel
public import proofs.«01_k».proof.Proof.Gen.Pre_rolled_3_Kernel
public import proofs.«01_k».proof.Proof.Gen.Pre_rolled_4_Kernel
public import proofs.«01_k».proof.Proof.Gen.Pre_rolled_5_Kernel
public import proofs.«01_k».proof.Proof.Gen.Pre_rolled_6_Kernel
public import proofs.«01_k».proof.Proof.Gen.Pre_rolled_7_Kernel
public import proofs.«01_k».proof.Proof.Gen.Pre_rolled_1_ReferenceIdeal
public import proofs.«01_k».proof.Proof.Gen.Pre_rolled_2_ReferenceIdeal
public import proofs.«01_k».proof.Proof.Gen.Pre_rolled_3_ReferenceIdeal
public import proofs.«01_k».proof.Proof.Gen.Pre_rolled_4_ReferenceIdeal
public import proofs.«01_k».proof.Proof.Gen.Pre_rolled_5_ReferenceIdeal
public import proofs.«01_k».proof.Proof.Gen.Pre_rolled_6_ReferenceIdeal
public import proofs.«01_k».proof.Proof.Gen.Pre_rolled_7_ReferenceIdeal
public import proofs.«01_k».proof.Proof.Tables
public import proofs.«01_k».proof.Proof.Claims
public import proofs.«01_k».proof.Proof.Printed
public import Idealize.ShloMosaic.Adequacy
public import Idealize.ShloMosaic.Init

@[expose] public section

noncomputable section

namespace Cert.Proof

open Idealize.ShloMosaic Idealize.SL.Sem Cert.Exchange

/-! ## The kernel's frames: every execution ends, the inputs unchanged, the semaphores at zero -/

theorem frame_1 : Cert.quiescent_Kernel := fun m ρ h => printed_frame (F := Bits) (shift 7) m ρ (tabled_1 m h)
theorem frame_2 : Cert.quiescent_Kernel_pre_rolled_2_Kernel := fun m ρ h => printed_frame (F := Bits) (shift 6) m ρ (tabled_2 m h)
theorem frame_3 : Cert.quiescent_Kernel_pre_rolled_3_Kernel := fun m ρ h => printed_frame (F := Bits) (shift 5) m ρ (tabled_3 m h)
theorem frame_4 : Cert.quiescent_Kernel_pre_rolled_4_Kernel := fun m ρ h => printed_frame (F := Bits) (shift 4) m ρ (tabled_4 m h)
theorem frame_5 : Cert.quiescent_Kernel_pre_rolled_5_Kernel := fun m ρ h => printed_frame (F := Bits) (shift 3) m ρ (tabled_5 m h)
theorem frame_6 : Cert.quiescent_Kernel_pre_rolled_6_Kernel := fun m ρ h => printed_frame (F := Bits) (shift 2) m ρ (tabled_6 m h)
theorem frame_7 : Cert.quiescent_Kernel_pre_rolled_7_Kernel := fun m ρ h => printed_frame (F := Bits) (shift 1) m ρ (tabled_7 m h)

theorem ideal_frame_1 : Cert.quiescent_KernelIdeal := fun m ρ h => kernel_frame (F := Ideal) (shift 7) m ρ (tabled_1 m h)
theorem ideal_frame_2 : Cert.quiescent_KernelIdeal_pre_rolled_2_Kernel := fun m ρ h => kernel_frame (F := Ideal) (shift 6) m ρ (tabled_2 m h)
theorem ideal_frame_3 : Cert.quiescent_KernelIdeal_pre_rolled_3_Kernel := fun m ρ h => kernel_frame (F := Ideal) (shift 5) m ρ (tabled_3 m h)
theorem ideal_frame_4 : Cert.quiescent_KernelIdeal_pre_rolled_4_Kernel := fun m ρ h => kernel_frame (F := Ideal) (shift 4) m ρ (tabled_4 m h)
theorem ideal_frame_5 : Cert.quiescent_KernelIdeal_pre_rolled_5_Kernel := fun m ρ h => kernel_frame (F := Ideal) (shift 3) m ρ (tabled_5 m h)
theorem ideal_frame_6 : Cert.quiescent_KernelIdeal_pre_rolled_6_Kernel := fun m ρ h => kernel_frame (F := Ideal) (shift 2) m ρ (tabled_6 m h)
theorem ideal_frame_7 : Cert.quiescent_KernelIdeal_pre_rolled_7_Kernel := fun m ρ h => kernel_frame (F := Ideal) (shift 1) m ρ (tabled_7 m h)

/-! ## The reference's frames -/

theorem reference_frame_any : Cert.quiescent_ReferenceIdeal := fun m ρ _ => reference_frame (F := Ideal) m ρ
theorem reference_frame_1 : Cert.quiescent_ReferenceIdeal_pre_rolled_1_ReferenceIdeal := fun m ρ _ => reference_frame (F := Ideal) m ρ
theorem reference_frame_2 : Cert.quiescent_ReferenceIdeal_pre_rolled_2_ReferenceIdeal := fun m ρ _ => reference_frame (F := Ideal) m ρ
theorem reference_frame_3 : Cert.quiescent_ReferenceIdeal_pre_rolled_3_ReferenceIdeal := fun m ρ _ => reference_frame (F := Ideal) m ρ
theorem reference_frame_4 : Cert.quiescent_ReferenceIdeal_pre_rolled_4_ReferenceIdeal := fun m ρ _ => reference_frame (F := Ideal) m ρ
theorem reference_frame_5 : Cert.quiescent_ReferenceIdeal_pre_rolled_5_ReferenceIdeal := fun m ρ _ => reference_frame (F := Ideal) m ρ
theorem reference_frame_6 : Cert.quiescent_ReferenceIdeal_pre_rolled_6_ReferenceIdeal := fun m ρ _ => reference_frame (F := Ideal) m ρ
theorem reference_frame_7 : Cert.quiescent_ReferenceIdeal_pre_rolled_7_ReferenceIdeal := fun m ρ _ => reference_frame (F := Ideal) m ρ

/-! ## The values: each device's output is its block of the reference's result -/

theorem value_1 : Cert.algebraic_KernelIdeal_ReferenceIdeal := fun m ρ m' ρ' h hargs =>
  same_value (F := Ideal) (shift 7) m ρ (tabled_1 m h) m' ρ' hargs
theorem value_2 : Cert.algebraic_KernelIdeal_ReferenceIdeal_pre_rolled_2_Kernel := fun m ρ m' ρ' h hargs =>
  same_value (F := Ideal) (shift 6) m ρ (tabled_2 m h) m' ρ' hargs
theorem value_3 : Cert.algebraic_KernelIdeal_ReferenceIdeal_pre_rolled_3_Kernel := fun m ρ m' ρ' h hargs =>
  same_value (F := Ideal) (shift 5) m ρ (tabled_3 m h) m' ρ' hargs
theorem value_4 : Cert.algebraic_KernelIdeal_ReferenceIdeal_pre_rolled_4_Kernel := fun m ρ m' ρ' h hargs =>
  same_value (F := Ideal) (shift 4) m ρ (tabled_4 m h) m' ρ' hargs
theorem value_5 : Cert.algebraic_KernelIdeal_ReferenceIdeal_pre_rolled_5_Kernel := fun m ρ m' ρ' h hargs =>
  same_value (F := Ideal) (shift 3) m ρ (tabled_5 m h) m' ρ' hargs
theorem value_6 : Cert.algebraic_KernelIdeal_ReferenceIdeal_pre_rolled_6_Kernel := fun m ρ m' ρ' h hargs =>
  same_value (F := Ideal) (shift 2) m ρ (tabled_6 m h) m' ρ' hargs
theorem value_7 : Cert.algebraic_KernelIdeal_ReferenceIdeal_pre_rolled_7_Kernel := fun m ρ m' ρ' h hargs =>
  same_value (F := Ideal) (shift 1) m ρ (tabled_7 m h) m' ρ' hargs

/-- The idealization rewrites no operation. -/
theorem preserved : Cert.preserves_Kernel_KernelIdeal := trivial

theorem claim : Cert.Claim := ⟨
  Cert.Kernel.Gen.facts, Cert.KernelIdeal.Gen.facts, Cert.ReferenceIdeal.Gen.facts,
  Cert.Pre_rolled_1_Kernel.Gen.facts, Cert.Pre_rolled_2_Kernel.Gen.facts, Cert.Pre_rolled_3_Kernel.Gen.facts,
  Cert.Pre_rolled_4_Kernel.Gen.facts, Cert.Pre_rolled_5_Kernel.Gen.facts, Cert.Pre_rolled_6_Kernel.Gen.facts,
  Cert.Pre_rolled_7_Kernel.Gen.facts, Cert.Pre_rolled_1_ReferenceIdeal.Gen.facts,
  Cert.Pre_rolled_2_ReferenceIdeal.Gen.facts, Cert.Pre_rolled_3_ReferenceIdeal.Gen.facts,
  Cert.Pre_rolled_4_ReferenceIdeal.Gen.facts, Cert.Pre_rolled_5_ReferenceIdeal.Gen.facts,
  Cert.Pre_rolled_6_ReferenceIdeal.Gen.facts, Cert.Pre_rolled_7_ReferenceIdeal.Gen.facts, frame_1, frame_2, frame_3,
  frame_4, frame_5, frame_6, frame_7, ideal_frame_1, ideal_frame_2, ideal_frame_3, ideal_frame_4, ideal_frame_5,
  ideal_frame_6, ideal_frame_7, reference_frame_any, reference_frame_1, reference_frame_2, reference_frame_3,
  reference_frame_4, reference_frame_5, reference_frame_6, reference_frame_7, preserved, value_1, value_2, value_3,
  value_4, value_5, value_6, value_7⟩

end Cert.Proof

end
